-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_in_range [hPre_finite_and_in_range : Cert.Pre_finite_and_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_in_range [hPre_finite_and_in_range : Cert.Pre_finite_and_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_and_in_range [hKernelIdeal : Cert.KernelIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_and_in_range [hReferenceIdeal : Cert.ReferenceIdeal.Facts] [hPre_finite_and_in_range : Cert.Pre_finite_and_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "noise_ratio" .f32 0x3B6305FB#32 ((1000⁻¹ * (Real.sqrt 12) : ℝ) : EReal)

def algebraic_KernelIdeal_ReferenceIdeal_pre_finite_and_in_range [hKernelIdeal : Cert.KernelIdeal.Facts] [hReferenceIdeal : Cert.ReferenceIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_and_in_range : Cert.Pre_finite_and_in_range.Facts),
    quiescent_Kernel (hKernel := hKernel)
    ∧ quiescent_KernelIdeal (hKernelIdeal := hKernelIdeal)
    ∧ quiescent_KernelIdeal_pre_finite_and_in_range (hKernelIdeal := hKernelIdeal) (hPre_finite_and_in_range := hPre_finite_and_in_range)
    ∧ quiescent_ReferenceIdeal (hReferenceIdeal := hReferenceIdeal)
    ∧ quiescent_ReferenceIdeal_pre_finite_and_in_range (hReferenceIdeal := hReferenceIdeal) (hPre_finite_and_in_range := hPre_finite_and_in_range)
    ∧ preserves_Kernel_KernelIdeal
    ∧ algebraic_KernelIdeal_ReferenceIdeal_pre_finite_and_in_range (hKernelIdeal := hKernelIdeal) (hReferenceIdeal := hReferenceIdeal) (hPre_finite_and_in_range := hPre_finite_and_in_range)
-- ==== Pre_finite_and_in_range.lean ====
abbrev S160000x256 : Shape := ⟨2, ![160000, 256]⟩
abbrev S160000 : Shape := ⟨1, ![160000]⟩
abbrev S_ : Shape := ⟨0, ![]⟩

class Facts : Prop where
  bcast_S_S160000x256 : S_.BroadcastsInDim S160000x256 (![] : Fin 0 → Fin S160000x256.rank)
  reducesTo_S160000x256_S_d0_1 : S160000x256.ReducesTo [0, 1] S_
  h_S_ : 0 < S_.numel
  bcast_S_S160000 : S_.BroadcastsInDim S160000 (![] : Fin 0 → Fin S160000.rank)
  reducesTo_S160000_S_d0 : S160000.ReducesTo [0] S_

variable [Facts]

def fn {F : FTy → Type} [FloatOps F] (main_arg0 : FVec F S160000x256 .f32) (main_arg1 : IVec S160000 32) : IVec S_ 1 :=
  let main_v0 : FVec F S160000x256 .f32 := Host.absf main_arg0
  let main_cst : FVec F S_ .f32 := constant S_ .f32 0x7F800000#32
  let main_v1 : FVec F S160000x256 .f32 := broadcastInDim S160000x256 ![] bcast_S_S160000x256 main_cst
  let main_v2 : IVec S160000x256 1 := cmpf .olt main_v0 main_v1
  let main_c : IVec S_ 1 := constantI S_ 1 1#1
  let main_v3 : IVec S_ 1 := (fun x v => Host.reduce IntOp.andi x v reducesTo_S160000x256_S_d0_1 h_S_) main_v2 main_c
  let main_c_0 : IVec S_ 32 := constantI S_ 32 0#32
  let main_v4 : IVec S160000 32 := broadcastInDim S160000 ![] bcast_S_S160000 main_c_0
  let main_v5 : IVec S160000 1 := cmpi .sge main_arg1 main_v4
  let main_c_1 : IVec S_ 32 := constantI S_ 32 1000#32
  let main_v6 : IVec S160000 32 := broadcastInDim S160000 ![] bcast_S_S160000 main_c_1
  let main_v7 : IVec S160000 1 := cmpi .slt main_arg1 main_v6
  let main_v8 : IVec S160000 1 := andi main_v5 main_v7
  let main_c_2 : IVec S_ 1 := constantI S_ 1 1#1
  let main_v9 : IVec S_ 1 := (fun x v => Host.reduce IntOp.andi x v reducesTo_S160000_S_d0 h_S_) main_v8 main_c_2
  let main_v10 : IVec S_ 1 := andi main_v3 main_v9
  main_v10
-- ==== Kernel.lean ====
abbrev S160000x256 : Shape := ⟨2, ![160000, 256]⟩
abbrev S160000 : Shape := ⟨1, ![160000]⟩
abbrev S50x1x3200 : Shape := ⟨3, ![50, 1, 3200]⟩
abbrev S250x1x640 : Shape := ⟨3, ![250, 1, 640]⟩
abbrev S1024x256 : Shape := ⟨2, ![1024, 256]⟩
abbrev S1x1x3200 : Shape := ⟨3, ![1, 1, 3200]⟩
abbrev S3200x256 : Shape := ⟨2, ![3200, 256]⟩
abbrev S1024x128 : Shape := ⟨2, ![1024, 128]⟩
abbrev S1x3200 : Shape := ⟨2, ![1, 3200]⟩
abbrev S1024x3200 : Shape := ⟨2, ![1024, 3200]⟩
abbrev S3200x128 : Shape := ⟨2, ![3200, 128]⟩
abbrev S1024x1 : Shape := ⟨2, ![1024, 1]⟩
abbrev S1x1x640 : Shape := ⟨3, ![1, 1, 640]⟩
abbrev S640x256 : Shape := ⟨2, ![640, 256]⟩
abbrev S1x640 : Shape := ⟨2, ![1, 640]⟩
abbrev S1024x640 : Shape := ⟨2, ![1024, 640]⟩
abbrev S640 : Shape := ⟨1, ![640]⟩
abbrev S640x1 : Shape := ⟨2, ![640, 1]⟩

abbrev nBuf : Space → Nat
  | .hbm => 6
  | .vmem => 15
  | .smem => 0
  | _ => 0

abbrev bufTy : (tb : Table) → Fin (tcTables nBuf tb) → BufTy
  | .hbm, ⟨0, _⟩ => ⟨S160000x256, .f32⟩
  | .hbm, ⟨1, _⟩ => ⟨S160000, .i32⟩
  | .hbm, ⟨2, _⟩ => ⟨S50x1x3200, .i32⟩
  | .hbm, ⟨3, _⟩ => ⟨S250x1x640, .i32⟩
  | .hbm, ⟨4, _⟩ => ⟨S1024x256, .bf16⟩
  | .hbm, ⟨5, _⟩ => ⟨S160000x256, .f32⟩
  | .local _ .vmem, ⟨0, _⟩ => ⟨S1x1x3200, .i32⟩
  | .local _ .vmem, ⟨1, _⟩ => ⟨S1x1x3200, .i32⟩
  | .local _ .vmem, ⟨2, _⟩ => ⟨S3200x256, .f32⟩
  | .local _ .vmem, ⟨3, _⟩ => ⟨S3200x256, .f32⟩
  | .local _ .vmem, ⟨4, _⟩ => ⟨S1024x256, .bf16⟩
  | .local _ .vmem, ⟨5, _⟩ => ⟨S1024x256, .f32⟩
  | .local _ .vmem, ⟨6, _⟩ => ⟨S1024x256, .f32⟩
  | .local _ .vmem, ⟨7, _⟩ => ⟨S1024x128, .f32⟩
  | .local _ .vmem, ⟨8, _⟩ => ⟨S1x1x640, .i32⟩
  | .local _ .vmem, ⟨9, _⟩ => ⟨S1x1x640, .i32⟩
  | .local _ .vmem, ⟨10, _⟩ => ⟨S640x256, .f32⟩
  | .local _ .vmem, ⟨11, _⟩ => ⟨S640x256, .f32⟩
  | .local _ .vmem, ⟨12, _⟩ => ⟨S1024x256, .bf16⟩
  | .local _ .vmem, ⟨13, _⟩ => ⟨S640x256, .f32⟩
  | .local _ .vmem, ⟨14, _⟩ => ⟨S640x256, .f32⟩
  | _, _ => ⟨S160000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c49_i32 : BitVec 32 := 49#32
  let v34 : BitVec 1 := Scalar.cmpi .eq arg0 c49_i32
  let v35 : BitVec 32 := Scalar.extui v34
  let c0_i32_20 : BitVec 32 := 0#32
  let v36 : BitVec 1 := Scalar.cmpi .ne v35 c0_i32_20
  v36

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x3200 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![250], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1x1x640 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S640x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1024x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S640x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== KernelIdeal.lean ====
variable {F : FTy → Type} [FloatOps F] [Named F]
def κ : String → Option EReal := fun
  | "noise_ratio" => some ((1000⁻¹ * (Real.sqrt 12) : ℝ) : EReal)
  | _ => none
-- ==== ReferenceIdeal.lean ====
abbrev S160000x256 : Shape := ⟨2, ![160000, 256]⟩
abbrev S160000 : Shape := ⟨1, ![160000]⟩
abbrev S640x256 : Shape := ⟨2, ![640, 256]⟩
abbrev S_ : Shape := ⟨0, ![]⟩
abbrev S1000 : Shape := ⟨1, ![1000]⟩
abbrev S160000x1 : Shape := ⟨2, ![160000, 1]⟩
abbrev S1000x256 : Shape := ⟨2, ![1000, 256]⟩
abbrev S1000x1 : Shape := ⟨2, ![1000, 1]⟩

abbrev nBuf : Space → Nat
  | .hbm => 83
  | .vmem => 4
  | .smem => 0
  | _ => 0

abbrev bufTy : (tb : Table) → Fin (tcTables nBuf tb) → BufTy
  | .hbm, ⟨0, _⟩ => ⟨S160000x256, .f32⟩
  | .hbm, ⟨1, _⟩ => ⟨S160000, .i32⟩
  | .hbm, ⟨2, _⟩ => ⟨S160000x256, .i32⟩
  | .hbm, ⟨3, _⟩ => ⟨S_, .i32⟩
  | .hbm, ⟨4, _⟩ => ⟨S160000x256, .i32⟩
  | .hbm, ⟨5, _⟩ => ⟨S160000x256, .i32⟩
  | .hbm, ⟨6, _⟩ => ⟨S160000x256, .f32⟩
  | .hbm, ⟨7, _⟩ => ⟨S_, .f32⟩
  | .hbm, ⟨8, _⟩ => ⟨S160000x256, .f32⟩
  | .hbm, ⟨9, _⟩ => ⟨S160000x256, .f32⟩
  | .hbm, ⟨10, _⟩ => ⟨S_, .f32⟩
  | .hbm, ⟨11, _⟩ => ⟨S160000x256, .f32⟩
  | .hbm, ⟨12, _⟩ => ⟨S160000x256, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S160000x256, .f32⟩
  | .hbm, ⟨17, _⟩ => ⟨S160000x256, .f32⟩
  | .hbm, ⟨18, _⟩ => ⟨S_, .f32⟩
  | .hbm, ⟨19, _⟩ => ⟨S160000, .f32⟩
  | .hbm, ⟨20, _⟩ => ⟨S_, .f32⟩
  | .hbm, ⟨21, _⟩ => ⟨S1000, .f32⟩
  | .hbm, ⟨22, _⟩ => ⟨S160000x1, .i32⟩
  | .hbm, ⟨23, _⟩ => ⟨S1000, .f32⟩
  | .hbm, ⟨24, _⟩ => ⟨S_, .f32⟩
  | .hbm, ⟨25, _⟩ => ⟨S1000, .f32⟩
  | .hbm, ⟨26, _⟩ => ⟨S1000, .f32⟩
  | .hbm, ⟨27, _⟩ => ⟨S_, .f32⟩
  | .hbm, ⟨28, _⟩ => ⟨S1000x256, .f32⟩
  | .hbm, ⟨29, _⟩ => ⟨S160000x1, .i32⟩
  | .hbm, ⟨30, _⟩ => ⟨S1000x256, .f32⟩
  | .hbm, ⟨31, _⟩ => ⟨S1000x1, .f32⟩
  | .hbm, ⟨32, _⟩ => ⟨S1000x256, .f32⟩
  | .hbm, ⟨33, _⟩ => ⟨S1000x256, .f32⟩
  | .hbm, ⟨34, _⟩ => ⟨S_, .i32⟩
  | .hbm, ⟨35, _⟩ => ⟨S160000, .i32⟩
  | .hbm, ⟨36, _⟩ => ⟨S160000, .i1⟩
  | .hbm, ⟨37, _⟩ => ⟨S_, .i32⟩
  | .hbm, ⟨38, _⟩ => ⟨S160000, .i32⟩
  | .hbm, ⟨39, _⟩ => ⟨S160000, .i32⟩
  | .hbm, ⟨40, _⟩ => ⟨S160000, .i32⟩
  | .hbm, ⟨41, _⟩ => ⟨S160000x1, .i32⟩
  | .hbm, ⟨42, _⟩ => ⟨S160000x256, .f32⟩
  | .hbm, ⟨43, _⟩ => ⟨S160000x256, .f32⟩
  | .hbm, ⟨44, _⟩ => ⟨S160000x256, .f32⟩
  | .hbm, ⟨45, _⟩ => ⟨S_, .f32⟩
  | .hbm, ⟨46, _⟩ => ⟨S1000x256, .f32⟩
  | .hbm, ⟨47, _⟩ => ⟨S160000x1, .i32⟩
  | .hbm, ⟨48, _⟩ => ⟨S1000x256, .f32⟩
  | .hbm, ⟨49, _⟩ => ⟨S_, .f32⟩
  | .hbm, ⟨50, _⟩ => ⟨S1000, .f32⟩
  | .hbm, ⟨51, _⟩ => ⟨S1000, .f32⟩
  | .hbm, ⟨52, _⟩ => ⟨S_, .f32⟩
  | .hbm, ⟨53, _⟩ => ⟨S1000, .f32⟩
  | .hbm, ⟨54, _⟩ => ⟨S1000, .f32⟩
  | .hbm, ⟨55, _⟩ => ⟨S1000x1, .f32⟩
  | .hbm, ⟨56, _⟩ => ⟨S1000x256, .f32⟩
  | .hbm, ⟨57, _⟩ => ⟨S1000x256, .f32⟩
  | .hbm, ⟨58, _⟩ => ⟨S1000x256, .f32⟩
  | .hbm, ⟨59, _⟩ => ⟨S_, .i32⟩
  | .hbm, ⟨60, _⟩ => ⟨S160000, .i32⟩
  | .hbm, ⟨61, _⟩ => ⟨S160000, .i1⟩
  | .hbm, ⟨62, _⟩ => ⟨S_, .i32⟩
  | .hbm, ⟨63, _⟩ => ⟨S160000, .i32⟩
  | .hbm, ⟨64, _⟩ => ⟨S160000, .i32⟩
  | .hbm, ⟨65, _⟩ => ⟨S160000, .i32⟩
  | .hbm, ⟨66, _⟩ => ⟨S160000x1, .i32⟩
  | .hbm, ⟨67, _⟩ => ⟨S160000x256, .f32⟩
  | .hbm, ⟨68, _⟩ => ⟨S160000x256, .f32⟩
  | .hbm, ⟨69, _⟩ => ⟨S_, .f32⟩
  | .hbm, ⟨70, _⟩ => ⟨S160000x256, .f32⟩
  | .hbm, ⟨71, _⟩ => ⟨S160000x256, .f32⟩
  | .hbm, ⟨72, _⟩ => ⟨S160000x256, .f32⟩
  | .hbm, ⟨73, _⟩ => ⟨S160000x256, .f32⟩
  | .hbm, ⟨74, _⟩ => ⟨S_, .f32⟩
  | .hbm, ⟨75, _⟩ => ⟨S160000, .f32⟩
  | .hbm, ⟨76, _⟩ => ⟨S160000x1, .f32⟩
  | .hbm, ⟨77, _⟩ => ⟨S160000x1, .f32⟩
  | .hbm, ⟨78, _⟩ => ⟨S_, .f32⟩
  | .hbm, ⟨79, _⟩ => ⟨S160000x1, .f32⟩
  | .hbm, ⟨80, _⟩ => ⟨S160000x1, .f32⟩
  | .hbm, ⟨81, _⟩ => ⟨S160000x256, .f32⟩
  | .hbm, ⟨82, _⟩ => ⟨S160000x256, .f32⟩
  | .local _ .vmem, ⟨0, _⟩ => ⟨S640x256, .f32⟩
  | .local _ .vmem, ⟨1, _⟩ => ⟨S640x256, .f32⟩
  | .local _ .vmem, ⟨2, _⟩ => ⟨S640x256, .i32⟩
  | .local _ .vmem, ⟨3, _⟩ => ⟨S640x256, .i32⟩
  | _, _ => ⟨S160000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_6 : Ref sig .tc := ⟨.hbm, 34, rfl⟩
abbrev main_v24 : Ref sig .tc := ⟨.hbm, 35, rfl⟩
abbrev main_v25 : Ref sig .tc := ⟨.hbm, 36, rfl⟩
abbrev main_c_7 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_8 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_9 : Ref sig .tc := ⟨.hbm, 49, rfl⟩
abbrev main_v36 : Ref sig .tc := ⟨.hbm, 50, rfl⟩
abbrev main_v37 : Ref sig .tc := ⟨.hbm, 51, rfl⟩
abbrev main_cst_10 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c_11 : Ref sig .tc := ⟨.hbm, 59, rfl⟩
abbrev main_v44 : Ref sig .tc := ⟨.hbm, 60, rfl⟩
abbrev main_v45 : Ref sig .tc := ⟨.hbm, 61, rfl⟩
abbrev main_c_12 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_13 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_call0_v0 : Ref sig .tc := ⟨.hbm, 73, rfl⟩
abbrev main_call0_cst : Ref sig .tc := ⟨.hbm, 74, rfl⟩
abbrev main_call0_v1 : Ref sig .tc := ⟨.hbm, 75, rfl⟩
abbrev main_call0_v2 : Ref sig .tc := ⟨.hbm, 76, rfl⟩
abbrev main_v55 : Ref sig .tc := ⟨.hbm, 77, rfl⟩
abbrev main_cst_14 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Proof.KI.Runs.lean ====
/- Pass A of the kernel: its windows' blocks, where its two branches are taken, and its buffers. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Two

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 50 = 0 :=
  (fun t => by
    have ht : t.val < 50 := Nat.lt_of_lt_of_eq t.isLt N_0
    have e0 : (grid0.coords t 0).val = t.val / 1 % 50 := Pipeline.Grid.coords_val t 0 (by decide) rfl
    simp only [cond0_0, e0]
    word_cmp
   : ∀ t : Fin grid0.N, cond0_0 (grid0.coords t) ↔ t.val % 50 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 50 = 49 :=
  (fun t => by
    have ht : t.val < 50 := Nat.lt_of_lt_of_eq t.isLt N_0
    have e0 : (grid0.coords t 0).val = t.val / 1 % 50 := Pipeline.Grid.coords_val t 0 (by decide) rfl
    simp only [cond0_1, k0_cond2, e0]
    word_cmp
   : ∀ t : Fin grid0.N, cond0_1 (grid0.coords t) ↔ t.val % 50 = 49)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- At the points of case A the printed configuration (`Cfg.idle`) calls output 2 idle: the case stores nothing into it. -/
theorem idleAt0_2_A : ∀ t : Fin cfg0.N, cond0_0 (grid0.coords t) → ¬cond0_1 (grid0.coords t) → cfg0.idle 2 (grid0.coords t) = true := by decide +kernel
/-- At the points of case A the pipeline does not write output 2's block back. -/
theorem noFlush0_2_A : ∀ t : Fin cfg0.N, cond0_0 (grid0.coords t) → ¬cond0_1 (grid0.coords t) → (cfg0.win 2).flush t = false := by decide +kernel
/-- At the points of case B the printed configuration (`Cfg.idle`) calls output 2 idle: the case stores nothing into it. -/
theorem idleAt0_2_B : ∀ t : Fin cfg0.N, ¬cond0_0 (grid0.coords t) → ¬cond0_1 (grid0.coords t) → cfg0.idle 2 (grid0.coords t) = true := by decide +kernel
/-- At the points of case B the pipeline does not write output 2's block back. -/
theorem noFlush0_2_B : ∀ t : Fin cfg0.N, ¬cond0_0 (grid0.coords t) → ¬cond0_1 (grid0.coords t) → (cfg0.win 2).flush t = false := by decide +kernel
/-- At the points of case C the printed configuration (`Cfg.idle`) calls output 2 live: the case stores into it. -/
theorem liveAt0_2_C : ∀ t : Fin cfg0.N, ¬cond0_0 (grid0.coords t) → cond0_1 (grid0.coords t) → cfg0.idle 2 (grid0.coords t) = false := by decide +kernel

/-! ## The kernel body on any staging memrefs: a subtype the run finds -/

/-- One staging buffer of output window 2, through which its contents are stated (`View.read_writes_of_cover`: the
    choice does not matter). -/
abbrev VO0_2 : View sig .tc .vmem S1024x256 .bf16 := (Memref.whole cc0_stg2_0 : Memref sig .tc .vmem S1024x256 .bf16).view
/-- Each window's current staging memref at point `t`, spelled as the pipeline passes it (`bodyAt0`), and its wholeness. -/
abbrev ms0_0 (t : Fin cfg0.N) : Memref sig .tc .vmem S1x1x3200 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3200x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x256 .bf16 := win0_2.stage (cfg0.slots t 2)
abbrev hs0_2 (t : Fin cfg0.N) : (ms0_2 t).IsWhole := hstage0_2 ((cfg0.slots t 2).cast nbuf0_2)
/-- The scratch operands: whole scoped buffers of the kernel's own, passed beside the windows. -/
abbrev scM0_0 : Memref sig .tc .vmem S1024x256 .f32 := Memref.whole cc0_scratch0
abbrev scM0_1 : Memref sig .tc .vmem S1024x256 .f32 := Memref.whole cc0_scratch1
abbrev scM0_2 : Memref sig .tc .vmem S1024x128 .f32 := Memref.whole cc0_scratch2
/-- The scratch `arg4` the kernel carries between points, as a view: what it holds is stated through it. -/
abbrev VS0_0 : View sig .tc .vmem S1024x256 .f32 := scM0_0.view
/-- The scratch `arg5` the kernel carries between points, as a view: what it holds is stated through it. -/
abbrev VS0_1 : View sig .tc .vmem S1024x256 .f32 := scM0_1.view
/-- The scratch `arg6` the kernel carries between points, as a view: what it holds is stated through it. -/
abbrev VS0_2 : View sig .tc .vmem S1024x128 .f32 := scM0_2.view

/-- Separating conjunction reassociated, as an equality. -/
theorem sep_assoc_same (P Q R : sProp 𝕄) : iprop((P ∗ Q) ∗ R) = iprop(P ∗ Q ∗ R) :=
  equiv_iff.mp ⟨BI.sep_assoc, BI.sep_assoc'⟩

/-- The buffers of pass B's windows, at anything, and the generator register at some state: what pass A leaves alone. -/
def restG (c : Dev nD) : sProp 𝕄 :=
  iprop(((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f)) ∗ ∃ r, prngReg c r)

/-- The frame kit's invariant with the scratch operands as memrefs owned at some contents (`scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ restG c) := by
  unfold Pipeline.ΦA restG; rw [scopedRest0_eq]; simp only [scM0_0, scM0_1, scM0_2, owns_whole, sep_assoc_same]; rfl

end Cert.KernelIdeal.Two

end
-- ==== Proof.KI.RunA.lean ====
/- Pass A's body run at the points of case A. -/
module

public import proofs.«01_k».proof.Proof.KI.Runs

@[expose] public section

set_option maxRecDepth 16384

noncomputable section

namespace Cert.KernelIdeal.Two

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the outputs it leaves idle (2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S1x1x3200 .i32) (harg1 : arg1.IsWhole) (arg2 : Memref sig .tc .vmem S3200x256 .f32) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x128 .f32) (harg6 : arg6.IsWhole) (hc0 : cond0_0 i) (hc1 : ¬cond0_1 i)
    (x0 : Vec F S1x1x3200 .i32) (x1 : Vec F S3200x256 .f32) :
    Σ' (L2 : List (View.Piece (Elt F) S1024x256 .bf16)), Σ' (LS0 : List (View.Piece (Elt F) S1024x256 .f32)), Σ' (LS1 : List (View.Piece (Elt F) S1024x256 .f32)), { LS2 : List (View.Piece (Elt F) S1024x128 .f32) //
      ∀ (xi2 : Vec F S1024x256 .bf16) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1) ∗ (∃ f, arg6.view.loc (c : Thread nD τ) ↦[arg6.view.set]{fullShare} arg6.view.writes (Elt F) f LS2)) -∗ K ⟨⟩))
          ⊢ wp frame (wpE (defs₀ (F := F)) Variants.none c none) E (cc0__pass_a i arg1 harg1 arg2 harg2 arg3 harg3 arg4 harg4 arg5 harg5 arg6 harg6) K } := by
  refine ⟨[], ?_, ?_, ?_, fun xi2 E K => ?run⟩
  case run =>
    simp only [cc0__pass_a_eq_skeleton]; unfold cc0__pass_a_skel
    simp only [k0_part1_eq_skeleton]
    unfold owns
    iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    isplitl [HS1]; · iexists _; iexact HS1
    iexists _; iexact HS2

end Cert.KernelIdeal.Two

end
-- ==== Proof.KI.RunB.lean ====
/- Pass A's body run at the points of case B. -/
module

public import proofs.«01_k».proof.Proof.KI.RunA

@[expose] public section

set_option maxRecDepth 16384

noncomputable section

namespace Cert.KernelIdeal.Two

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large: the definition's epilogue — `abstractNestedProofs` — walks it past the default budget)
set_option maxHeartbeats 1200000 in
/-- What the body's stores leave in each output's staging memref, as pieces (last first) IN CASE B (`scf.if` 0 not taken, `scf.if` 1 not taken: points 1, 2, … 48: 48 of 50), WITH the
    proof that on whole staging memrefs — the inputs' at their contents, the outputs it leaves idle (2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S1x1x3200 .i32) (harg1 : arg1.IsWhole) (arg2 : Memref sig .tc .vmem S3200x256 .f32) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x128 .f32) (harg6 : arg6.IsWhole) (hc0 : ¬cond0_0 i) (hc1 : ¬cond0_1 i)
    (x0 : Vec F S1x1x3200 .i32) (x1 : Vec F S3200x256 .f32) (xs0 : Vec F S1024x256 .f32) (xs1 : Vec F S1024x256 .f32) (xs2 : Vec F S1024x128 .f32) :
    Σ' (L2 : List (View.Piece (Elt F) S1024x256 .bf16)), Σ' (LS0 : List (View.Piece (Elt F) S1024x256 .f32)), Σ' (LS1 : List (View.Piece (Elt F) S1024x256 .f32)), { LS2 : List (View.Piece (Elt F) S1024x128 .f32) //
      ∀ (xi2 : Vec F S1024x256 .bf16) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0 ∗ owns (c : Thread nD τ) arg5 fullShare xs1 ∗ owns (c : Thread nD τ) arg6 fullShare xs2
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1) ∗ (∃ f, arg6.view.loc (c : Thread nD τ) ↦[arg6.view.set]{fullShare} arg6.view.writes (Elt F) f LS2)) -∗ K ⟨⟩))
          ⊢ wp frame (wpE (defs₀ (F := F)) Variants.none c none) E (cc0__pass_a i arg1 harg1 arg2 harg2 arg3 harg3 arg4 harg4 arg5 harg5 arg6 harg6) K } := by
  refine ⟨[], ?_, ?_, ?_, fun xi2 E K => ?run⟩
  case run =>
    simp only [cc0__pass_a_eq_skeleton]; unfold cc0__pass_a_skel
    simp only [k0_part1_eq_skeleton]
    unfold owns
    iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hfs0; obtain rfl := harg5.eq_unread hfs1; obtain rfl := harg6.eq_unread hfs2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    isplitl [HS1]; · iexists _; iexact HS1
    iexists _; iexact HS2

end Cert.KernelIdeal.Two

end
-- ==== Proof.KI.RunC.lean ====
/- Pass A's body run at the points of case C. -/
module

public import proofs.«01_k».proof.Proof.KI.RunB

@[expose] public section

set_option maxRecDepth 16384

noncomputable section

namespace Cert.KernelIdeal.Two

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large: the definition's epilogue — `abstractNestedProofs` — walks it past the default budget)
set_option maxHeartbeats 1200000 in
/-- What the body's stores leave in each output's staging memref, as pieces (last first) IN CASE C (`scf.if` 0 not taken, `scf.if` 1 taken: points 49), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S1x1x3200 .i32) (harg1 : arg1.IsWhole) (arg2 : Memref sig .tc .vmem S3200x256 .f32) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x128 .f32) (harg6 : arg6.IsWhole) (hc0 : ¬cond0_0 i) (hc1 : cond0_1 i)
    (x0 : Vec F S1x1x3200 .i32) (x1 : Vec F S3200x256 .f32) (xs0 : Vec F S1024x256 .f32) (xs1 : Vec F S1024x256 .f32) (xs2 : Vec F S1024x128 .f32) :
    Σ' (L2 : List (View.Piece (Elt F) S1024x256 .bf16)), Σ' (LS0 : List (View.Piece (Elt F) S1024x256 .f32)), Σ' (LS1 : List (View.Piece (Elt F) S1024x256 .f32)), { LS2 : List (View.Piece (Elt F) S1024x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0 ∗ owns (c : Thread nD τ) arg5 fullShare xs1 ∗ owns (c : Thread nD τ) arg6 fullShare xs2
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1) ∗ (∃ f, arg6.view.loc (c : Thread nD τ) ↦[arg6.view.set]{fullShare} arg6.view.writes (Elt F) f LS2)) -∗ K ⟨⟩))
          ⊢ wp frame (wpE (defs₀ (F := F)) Variants.none c none) E (cc0__pass_a i arg1 harg1 arg2 harg2 arg3 harg3 arg4 harg4 arg5 harg5 arg6 harg6) K } := by
  refine ⟨?_, ?_, ?_, ?_, fun E K => ?run⟩
  case run =>
    simp only [cc0__pass_a_eq_skeleton]; unfold cc0__pass_a_skel
    simp only [k0_part1_eq_skeleton]
    unfold owns
    iintro ⟨⟨%f0, %hf0, H0⟩, ⟨%f1, %hf1, H1⟩, ⟨%d2, %f2, -, H2⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg4.eq_unread hfs0; obtain rfl := harg5.eq_unread hfs1; obtain rfl := harg6.eq_unread hfs2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [HS0]; · iexists _; iexact HS0
    isplitl [HS1]; · iexists _; iexact HS1
    iexists _; iexact HS2

end Cert.KernelIdeal.Two

end
-- ==== Proof.KI.PassA.lean ====
/- Pass A: what its scratch and its output hold after each point, and its body's obligation. -/
module

public import proofs.«01_k».proof.Proof.KI.RunC
public import Idealize.ShloMosaic.Lib.Claim

@[expose] public section

set_option maxRecDepth 16384

noncomputable section

namespace Cert.KernelIdeal.Two

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Case A stores nothing into output 2 (the window is idle at its points and not written back there):
    no pieces — a placeholder (junk read back) that nothing consults, since at these points the window is neither
    written back nor read at the next point (Lib/Pipeline.lean "Idle points"). -/
def out0_A_2 (c : Dev nD) (i : grid0.Coords) (arg1 : Memref sig .tc .vmem S1x1x3200 .i32) (harg1 : arg1.IsWhole) (arg2 : Memref sig .tc .vmem S3200x256 .f32) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x128 .f32) (harg6 : arg6.IsWhole) (hc0 : cond0_0 i) (hc1 : ¬cond0_1 i)
    (x0 : Vec F S1x1x3200 .i32) (x1 : Vec F S3200x256 .f32) : Vec F S1024x256 .bf16 :=
  VO0_2.read (Elt F) (VO0_2.writes (Elt F) VO0_2.junk (kernelRun0_A c i arg1 harg1 arg2 harg2 arg3 harg3 arg4 harg4 arg5 harg5 arg6 harg6 hc0 hc1 x0 x1).1)

/-- Case A's pieces for scratch `arg4`, which the kernel carries between points, cover it: 2 pieces of `S1024x256` tiling it (Lib/Ring.lean `Piece.tiledL`). -/
theorem scover0_A_0 (c : Dev nD) (i : grid0.Coords) (arg1 : Memref sig .tc .vmem S1x1x3200 .i32) (harg1 : arg1.IsWhole) (arg2 : Memref sig .tc .vmem S3200x256 .f32) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x128 .f32) (harg6 : arg6.IsWhole) (hc0 : cond0_0 i) (hc1 : ¬cond0_1 i)
    (x0 : Vec F S1x1x3200 .i32) (x1 : Vec F S3200x256 .f32) (y : S1024x256.Idx) :
    ∃ pc ∈ (kernelRun0_A c i arg1 harg1 arg2 harg2 arg3 harg3 arg4 harg4 arg5 harg5 arg6 harg6 hc0 hc1 x0 x1).2.1, y ∈ pc.1.set :=
  View.cover_of_tiledL (kernelRun0_A c i arg1 harg1 arg2 harg2 arg3 harg3 arg4 harg4 arg5 harg5 arg6 harg6 hc0 hc1 x0 x1).2.1 S1024x256.size (by sl_kernel_rfl) y

/-- What case A leaves in scratch `arg4`: its pieces read back over junk. -/
def sout0_A_0 (c : Dev nD) (i : grid0.Coords) (arg1 : Memref sig .tc .vmem S1x1x3200 .i32) (harg1 : arg1.IsWhole) (arg2 : Memref sig .tc .vmem S3200x256 .f32) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x128 .f32) (harg6 : arg6.IsWhole) (hc0 : cond0_0 i) (hc1 : ¬cond0_1 i)
    (x0 : Vec F S1x1x3200 .i32) (x1 : Vec F S3200x256 .f32) : Vec F S1024x256 .f32 :=
  VS0_0.read (Elt F) (VS0_0.writes (Elt F) VS0_0.junk (kernelRun0_A c i arg1 harg1 arg2 harg2 arg3 harg3 arg4 harg4 arg5 harg5 arg6 harg6 hc0 hc1 x0 x1).2.1)

/-- Case A's pieces for scratch `arg5`, which the kernel carries between points, cover it: 2 pieces of `S1024x256` tiling it (Lib/Ring.lean `Piece.tiledL`). -/
theorem scover0_A_1 (c : Dev nD) (i : grid0.Coords) (arg1 : Memref sig .tc .vmem S1x1x3200 .i32) (harg1 : arg1.IsWhole) (arg2 : Memref sig .tc .vmem S3200x256 .f32) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x128 .f32) (harg6 : arg6.IsWhole) (hc0 : cond0_0 i) (hc1 : ¬cond0_1 i)
    (x0 : Vec F S1x1x3200 .i32) (x1 : Vec F S3200x256 .f32) (y : S1024x256.Idx) :
    ∃ pc ∈ (kernelRun0_A c i arg1 harg1 arg2 harg2 arg3 harg3 arg4 harg4 arg5 harg5 arg6 harg6 hc0 hc1 x0 x1).2.2.1, y ∈ pc.1.set :=
  View.cover_of_tiledL (kernelRun0_A c i arg1 harg1 arg2 harg2 arg3 harg3 arg4 harg4 arg5 harg5 arg6 harg6 hc0 hc1 x0 x1).2.2.1 S1024x256.size (by sl_kernel_rfl) y

/-- What case A leaves in scratch `arg5`: its pieces read back over junk. -/
def sout0_A_1 (c : Dev nD) (i : grid0.Coords) (arg1 : Memref sig .tc .vmem S1x1x3200 .i32) (harg1 : arg1.IsWhole) (arg2 : Memref sig .tc .vmem S3200x256 .f32) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x128 .f32) (harg6 : arg6.IsWhole) (hc0 : cond0_0 i) (hc1 : ¬cond0_1 i)
    (x0 : Vec F S1x1x3200 .i32) (x1 : Vec F S3200x256 .f32) : Vec F S1024x256 .f32 :=
  VS0_1.read (Elt F) (VS0_1.writes (Elt F) VS0_1.junk (kernelRun0_A c i arg1 harg1 arg2 harg2 arg3 harg3 arg4 harg4 arg5 harg5 arg6 harg6 hc0 hc1 x0 x1).2.2.1)

/-- Case A's pieces for scratch `arg6`, which the kernel carries between points, cover it: 2 pieces of `S1024x128` tiling it (Lib/Ring.lean `Piece.tiledL`). -/
theorem scover0_A_2 (c : Dev nD) (i : grid0.Coords) (arg1 : Memref sig .tc .vmem S1x1x3200 .i32) (harg1 : arg1.IsWhole) (arg2 : Memref sig .tc .vmem S3200x256 .f32) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x128 .f32) (harg6 : arg6.IsWhole) (hc0 : cond0_0 i) (hc1 : ¬cond0_1 i)
    (x0 : Vec F S1x1x3200 .i32) (x1 : Vec F S3200x256 .f32) (y : S1024x128.Idx) :
    ∃ pc ∈ (kernelRun0_A c i arg1 harg1 arg2 harg2 arg3 harg3 arg4 harg4 arg5 harg5 arg6 harg6 hc0 hc1 x0 x1).2.2.2.1, y ∈ pc.1.set :=
  View.cover_of_tiledL (kernelRun0_A c i arg1 harg1 arg2 harg2 arg3 harg3 arg4 harg4 arg5 harg5 arg6 harg6 hc0 hc1 x0 x1).2.2.2.1 S1024x128.size (by sl_kernel_rfl) y

/-- What case A leaves in scratch `arg6`: its pieces read back over junk. -/
def sout0_A_2 (c : Dev nD) (i : grid0.Coords) (arg1 : Memref sig .tc .vmem S1x1x3200 .i32) (harg1 : arg1.IsWhole) (arg2 : Memref sig .tc .vmem S3200x256 .f32) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x128 .f32) (harg6 : arg6.IsWhole) (hc0 : cond0_0 i) (hc1 : ¬cond0_1 i)
    (x0 : Vec F S1x1x3200 .i32) (x1 : Vec F S3200x256 .f32) : Vec F S1024x128 .f32 :=
  VS0_2.read (Elt F) (VS0_2.writes (Elt F) VS0_2.junk (kernelRun0_A c i arg1 harg1 arg2 harg2 arg3 harg3 arg4 harg4 arg5 harg5 arg6 harg6 hc0 hc1 x0 x1).2.2.2.1)

/-- Case B stores nothing into output 2 (the window is idle at its points and not written back there):
    no pieces — a placeholder (junk read back) that nothing consults, since at these points the window is neither
    written back nor read at the next point (Lib/Pipeline.lean "Idle points"). -/
def out0_B_2 (c : Dev nD) (i : grid0.Coords) (arg1 : Memref sig .tc .vmem S1x1x3200 .i32) (harg1 : arg1.IsWhole) (arg2 : Memref sig .tc .vmem S3200x256 .f32) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x128 .f32) (harg6 : arg6.IsWhole) (hc0 : ¬cond0_0 i) (hc1 : ¬cond0_1 i)
    (x0 : Vec F S1x1x3200 .i32) (x1 : Vec F S3200x256 .f32) (xs0 : Vec F S1024x256 .f32) (xs1 : Vec F S1024x256 .f32) (xs2 : Vec F S1024x128 .f32) : Vec F S1024x256 .bf16 :=
  VO0_2.read (Elt F) (VO0_2.writes (Elt F) VO0_2.junk (kernelRun0_B c i arg1 harg1 arg2 harg2 arg3 harg3 arg4 harg4 arg5 harg5 arg6 harg6 hc0 hc1 x0 x1 xs0 xs1 xs2).1)

/-- Case B's pieces for scratch `arg4`, which the kernel carries between points, cover it: 1 piece of `S1024x256` tiling it (Lib/Ring.lean `Piece.tiledL`). -/
theorem scover0_B_0 (c : Dev nD) (i : grid0.Coords) (arg1 : Memref sig .tc .vmem S1x1x3200 .i32) (harg1 : arg1.IsWhole) (arg2 : Memref sig .tc .vmem S3200x256 .f32) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x128 .f32) (harg6 : arg6.IsWhole) (hc0 : ¬cond0_0 i) (hc1 : ¬cond0_1 i)
    (x0 : Vec F S1x1x3200 .i32) (x1 : Vec F S3200x256 .f32) (xs0 : Vec F S1024x256 .f32) (xs1 : Vec F S1024x256 .f32) (xs2 : Vec F S1024x128 .f32) (y : S1024x256.Idx) :
    ∃ pc ∈ (kernelRun0_B c i arg1 harg1 arg2 harg2 arg3 harg3 arg4 harg4 arg5 harg5 arg6 harg6 hc0 hc1 x0 x1 xs0 xs1 xs2).2.1, y ∈ pc.1.set :=
  View.cover_of_tiledL (kernelRun0_B c i arg1 harg1 arg2 harg2 arg3 harg3 arg4 harg4 arg5 harg5 arg6 harg6 hc0 hc1 x0 x1 xs0 xs1 xs2).2.1 S1024x256.size (by sl_kernel_rfl) y

/-- What case B leaves in scratch `arg4`: its pieces read back over junk. -/
def sout0_B_0 (c : Dev nD) (i : grid0.Coords) (arg1 : Memref sig .tc .vmem S1x1x3200 .i32) (harg1 : arg1.IsWhole) (arg2 : Memref sig .tc .vmem S3200x256 .f32) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x128 .f32) (harg6 : arg6.IsWhole) (hc0 : ¬cond0_0 i) (hc1 : ¬cond0_1 i)
    (x0 : Vec F S1x1x3200 .i32) (x1 : Vec F S3200x256 .f32) (xs0 : Vec F S1024x256 .f32) (xs1 : Vec F S1024x256 .f32) (xs2 : Vec F S1024x128 .f32) : Vec F S1024x256 .f32 :=
  VS0_0.read (Elt F) (VS0_0.writes (Elt F) VS0_0.junk (kernelRun0_B c i arg1 harg1 arg2 harg2 arg3 harg3 arg4 harg4 arg5 harg5 arg6 harg6 hc0 hc1 x0 x1 xs0 xs1 xs2).2.1)

/-- Case B's pieces for scratch `arg5`, which the kernel carries between points, cover it: 1 piece of `S1024x256` tiling it (Lib/Ring.lean `Piece.tiledL`). -/
theorem scover0_B_1 (c : Dev nD) (i : grid0.Coords) (arg1 : Memref sig .tc .vmem S1x1x3200 .i32) (harg1 : arg1.IsWhole) (arg2 : Memref sig .tc .vmem S3200x256 .f32) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x128 .f32) (harg6 : arg6.IsWhole) (hc0 : ¬cond0_0 i) (hc1 : ¬cond0_1 i)
    (x0 : Vec F S1x1x3200 .i32) (x1 : Vec F S3200x256 .f32) (xs0 : Vec F S1024x256 .f32) (xs1 : Vec F S1024x256 .f32) (xs2 : Vec F S1024x128 .f32) (y : S1024x256.Idx) :
    ∃ pc ∈ (kernelRun0_B c i arg1 harg1 arg2 harg2 arg3 harg3 arg4 harg4 arg5 harg5 arg6 harg6 hc0 hc1 x0 x1 xs0 xs1 xs2).2.2.1, y ∈ pc.1.set :=
  View.cover_of_tiledL (kernelRun0_B c i arg1 harg1 arg2 harg2 arg3 harg3 arg4 harg4 arg5 harg5 arg6 harg6 hc0 hc1 x0 x1 xs0 xs1 xs2).2.2.1 S1024x256.size (by sl_kernel_rfl) y

/-- What case B leaves in scratch `arg5`: its pieces read back over junk. -/
def sout0_B_1 (c : Dev nD) (i : grid0.Coords) (arg1 : Memref sig .tc .vmem S1x1x3200 .i32) (harg1 : arg1.IsWhole) (arg2 : Memref sig .tc .vmem S3200x256 .f32) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x128 .f32) (harg6 : arg6.IsWhole) (hc0 : ¬cond0_0 i) (hc1 : ¬cond0_1 i)
    (x0 : Vec F S1x1x3200 .i32) (x1 : Vec F S3200x256 .f32) (xs0 : Vec F S1024x256 .f32) (xs1 : Vec F S1024x256 .f32) (xs2 : Vec F S1024x128 .f32) : Vec F S1024x256 .f32 :=
  VS0_1.read (Elt F) (VS0_1.writes (Elt F) VS0_1.junk (kernelRun0_B c i arg1 harg1 arg2 harg2 arg3 harg3 arg4 harg4 arg5 harg5 arg6 harg6 hc0 hc1 x0 x1 xs0 xs1 xs2).2.2.1)

/-- Case B's pieces for scratch `arg6`, which the kernel carries between points, cover it: 1 piece of `S1024x128` tiling it (Lib/Ring.lean `Piece.tiledL`). -/
theorem scover0_B_2 (c : Dev nD) (i : grid0.Coords) (arg1 : Memref sig .tc .vmem S1x1x3200 .i32) (harg1 : arg1.IsWhole) (arg2 : Memref sig .tc .vmem S3200x256 .f32) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x128 .f32) (harg6 : arg6.IsWhole) (hc0 : ¬cond0_0 i) (hc1 : ¬cond0_1 i)
    (x0 : Vec F S1x1x3200 .i32) (x1 : Vec F S3200x256 .f32) (xs0 : Vec F S1024x256 .f32) (xs1 : Vec F S1024x256 .f32) (xs2 : Vec F S1024x128 .f32) (y : S1024x128.Idx) :
    ∃ pc ∈ (kernelRun0_B c i arg1 harg1 arg2 harg2 arg3 harg3 arg4 harg4 arg5 harg5 arg6 harg6 hc0 hc1 x0 x1 xs0 xs1 xs2).2.2.2.1, y ∈ pc.1.set :=
  View.cover_of_tiledL (kernelRun0_B c i arg1 harg1 arg2 harg2 arg3 harg3 arg4 harg4 arg5 harg5 arg6 harg6 hc0 hc1 x0 x1 xs0 xs1 xs2).2.2.2.1 S1024x128.size (by sl_kernel_rfl) y

/-- What case B leaves in scratch `arg6`: its pieces read back over junk. -/
def sout0_B_2 (c : Dev nD) (i : grid0.Coords) (arg1 : Memref sig .tc .vmem S1x1x3200 .i32) (harg1 : arg1.IsWhole) (arg2 : Memref sig .tc .vmem S3200x256 .f32) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x128 .f32) (harg6 : arg6.IsWhole) (hc0 : ¬cond0_0 i) (hc1 : ¬cond0_1 i)
    (x0 : Vec F S1x1x3200 .i32) (x1 : Vec F S3200x256 .f32) (xs0 : Vec F S1024x256 .f32) (xs1 : Vec F S1024x256 .f32) (xs2 : Vec F S1024x128 .f32) : Vec F S1024x128 .f32 :=
  VS0_2.read (Elt F) (VS0_2.writes (Elt F) VS0_2.junk (kernelRun0_B c i arg1 harg1 arg2 harg2 arg3 harg3 arg4 harg4 arg5 harg5 arg6 harg6 hc0 hc1 x0 x1 xs0 xs1 xs2).2.2.2.1)

/-- Case C's pieces for output 2 tile its block (1 store of `S1024x256`, checked by the kernel's evaluation: Lib/Ring.lean `Piece.tiledL`, linear in the pieces, through a loop's `@[irreducible]` trip theorem too), so they cover it. -/
theorem cover0_C_2 (c : Dev nD) (i : grid0.Coords) (arg1 : Memref sig .tc .vmem S1x1x3200 .i32) (harg1 : arg1.IsWhole) (arg2 : Memref sig .tc .vmem S3200x256 .f32) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x128 .f32) (harg6 : arg6.IsWhole) (hc0 : ¬cond0_0 i) (hc1 : cond0_1 i)
    (x0 : Vec F S1x1x3200 .i32) (x1 : Vec F S3200x256 .f32) (xs0 : Vec F S1024x256 .f32) (xs1 : Vec F S1024x256 .f32) (xs2 : Vec F S1024x128 .f32) (y : S1024x256.Idx) :
    ∃ pc ∈ (kernelRun0_C c i arg1 harg1 arg2 harg2 arg3 harg3 arg4 harg4 arg5 harg5 arg6 harg6 hc0 hc1 x0 x1 xs0 xs1 xs2).1, y ∈ pc.1.set :=
  View.cover_of_tiledL (kernelRun0_C c i arg1 harg1 arg2 harg2 arg3 harg3 arg4 harg4 arg5 harg5 arg6 harg6 hc0 hc1 x0 x1 xs0 xs1 xs2).1 S1024x256.size (by sl_kernel_rfl) y

/-- What case C leaves in output 2's staging buffer: its pieces read back over junk. -/
def out0_C_2 (c : Dev nD) (i : grid0.Coords) (arg1 : Memref sig .tc .vmem S1x1x3200 .i32) (harg1 : arg1.IsWhole) (arg2 : Memref sig .tc .vmem S3200x256 .f32) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x128 .f32) (harg6 : arg6.IsWhole) (hc0 : ¬cond0_0 i) (hc1 : cond0_1 i)
    (x0 : Vec F S1x1x3200 .i32) (x1 : Vec F S3200x256 .f32) (xs0 : Vec F S1024x256 .f32) (xs1 : Vec F S1024x256 .f32) (xs2 : Vec F S1024x128 .f32) : Vec F S1024x256 .bf16 :=
  VO0_2.read (Elt F) (VO0_2.writes (Elt F) VO0_2.junk (kernelRun0_C c i arg1 harg1 arg2 harg2 arg3 harg3 arg4 harg4 arg5 harg5 arg6 harg6 hc0 hc1 x0 x1 xs0 xs1 xs2).1)

/-- Case C's pieces for scratch `arg4`, which the kernel carries between points, cover it: 1 piece of `S1024x256` tiling it (Lib/Ring.lean `Piece.tiledL`). -/
theorem scover0_C_0 (c : Dev nD) (i : grid0.Coords) (arg1 : Memref sig .tc .vmem S1x1x3200 .i32) (harg1 : arg1.IsWhole) (arg2 : Memref sig .tc .vmem S3200x256 .f32) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x128 .f32) (harg6 : arg6.IsWhole) (hc0 : ¬cond0_0 i) (hc1 : cond0_1 i)
    (x0 : Vec F S1x1x3200 .i32) (x1 : Vec F S3200x256 .f32) (xs0 : Vec F S1024x256 .f32) (xs1 : Vec F S1024x256 .f32) (xs2 : Vec F S1024x128 .f32) (y : S1024x256.Idx) :
    ∃ pc ∈ (kernelRun0_C c i arg1 harg1 arg2 harg2 arg3 harg3 arg4 harg4 arg5 harg5 arg6 harg6 hc0 hc1 x0 x1 xs0 xs1 xs2).2.1, y ∈ pc.1.set :=
  View.cover_of_tiledL (kernelRun0_C c i arg1 harg1 arg2 harg2 arg3 harg3 arg4 harg4 arg5 harg5 arg6 harg6 hc0 hc1 x0 x1 xs0 xs1 xs2).2.1 S1024x256.size (by sl_kernel_rfl) y

/-- What case C leaves in scratch `arg4`: its pieces read back over junk. -/
def sout0_C_0 (c : Dev nD) (i : grid0.Coords) (arg1 : Memref sig .tc .vmem S1x1x3200 .i32) (harg1 : arg1.IsWhole) (arg2 : Memref sig .tc .vmem S3200x256 .f32) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x128 .f32) (harg6 : arg6.IsWhole) (hc0 : ¬cond0_0 i) (hc1 : cond0_1 i)
    (x0 : Vec F S1x1x3200 .i32) (x1 : Vec F S3200x256 .f32) (xs0 : Vec F S1024x256 .f32) (xs1 : Vec F S1024x256 .f32) (xs2 : Vec F S1024x128 .f32) : Vec F S1024x256 .f32 :=
  VS0_0.read (Elt F) (VS0_0.writes (Elt F) VS0_0.junk (kernelRun0_C c i arg1 harg1 arg2 harg2 arg3 harg3 arg4 harg4 arg5 harg5 arg6 harg6 hc0 hc1 x0 x1 xs0 xs1 xs2).2.1)

/-- Case C's pieces for scratch `arg5`, which the kernel carries between points, cover it: 1 piece of `S1024x256` tiling it (Lib/Ring.lean `Piece.tiledL`). -/
theorem scover0_C_1 (c : Dev nD) (i : grid0.Coords) (arg1 : Memref sig .tc .vmem S1x1x3200 .i32) (harg1 : arg1.IsWhole) (arg2 : Memref sig .tc .vmem S3200x256 .f32) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x128 .f32) (harg6 : arg6.IsWhole) (hc0 : ¬cond0_0 i) (hc1 : cond0_1 i)
    (x0 : Vec F S1x1x3200 .i32) (x1 : Vec F S3200x256 .f32) (xs0 : Vec F S1024x256 .f32) (xs1 : Vec F S1024x256 .f32) (xs2 : Vec F S1024x128 .f32) (y : S1024x256.Idx) :
    ∃ pc ∈ (kernelRun0_C c i arg1 harg1 arg2 harg2 arg3 harg3 arg4 harg4 arg5 harg5 arg6 harg6 hc0 hc1 x0 x1 xs0 xs1 xs2).2.2.1, y ∈ pc.1.set :=
  View.cover_of_tiledL (kernelRun0_C c i arg1 harg1 arg2 harg2 arg3 harg3 arg4 harg4 arg5 harg5 arg6 harg6 hc0 hc1 x0 x1 xs0 xs1 xs2).2.2.1 S1024x256.size (by sl_kernel_rfl) y

/-- What case C leaves in scratch `arg5`: its pieces read back over junk. -/
def sout0_C_1 (c : Dev nD) (i : grid0.Coords) (arg1 : Memref sig .tc .vmem S1x1x3200 .i32) (harg1 : arg1.IsWhole) (arg2 : Memref sig .tc .vmem S3200x256 .f32) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x128 .f32) (harg6 : arg6.IsWhole) (hc0 : ¬cond0_0 i) (hc1 : cond0_1 i)
    (x0 : Vec F S1x1x3200 .i32) (x1 : Vec F S3200x256 .f32) (xs0 : Vec F S1024x256 .f32) (xs1 : Vec F S1024x256 .f32) (xs2 : Vec F S1024x128 .f32) : Vec F S1024x256 .f32 :=
  VS0_1.read (Elt F) (VS0_1.writes (Elt F) VS0_1.junk (kernelRun0_C c i arg1 harg1 arg2 harg2 arg3 harg3 arg4 harg4 arg5 harg5 arg6 harg6 hc0 hc1 x0 x1 xs0 xs1 xs2).2.2.1)

/-- Case C's pieces for scratch `arg6`, which the kernel carries between points, cover it: 1 piece of `S1024x128` tiling it (Lib/Ring.lean `Piece.tiledL`). -/
theorem scover0_C_2 (c : Dev nD) (i : grid0.Coords) (arg1 : Memref sig .tc .vmem S1x1x3200 .i32) (harg1 : arg1.IsWhole) (arg2 : Memref sig .tc .vmem S3200x256 .f32) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x128 .f32) (harg6 : arg6.IsWhole) (hc0 : ¬cond0_0 i) (hc1 : cond0_1 i)
    (x0 : Vec F S1x1x3200 .i32) (x1 : Vec F S3200x256 .f32) (xs0 : Vec F S1024x256 .f32) (xs1 : Vec F S1024x256 .f32) (xs2 : Vec F S1024x128 .f32) (y : S1024x128.Idx) :
    ∃ pc ∈ (kernelRun0_C c i arg1 harg1 arg2 harg2 arg3 harg3 arg4 harg4 arg5 harg5 arg6 harg6 hc0 hc1 x0 x1 xs0 xs1 xs2).2.2.2.1, y ∈ pc.1.set :=
  View.cover_of_tiledL (kernelRun0_C c i arg1 harg1 arg2 harg2 arg3 harg3 arg4 harg4 arg5 harg5 arg6 harg6 hc0 hc1 x0 x1 xs0 xs1 xs2).2.2.2.1 S1024x128.size (by sl_kernel_rfl) y

/-- What case C leaves in scratch `arg6`: its pieces read back over junk. -/
def sout0_C_2 (c : Dev nD) (i : grid0.Coords) (arg1 : Memref sig .tc .vmem S1x1x3200 .i32) (harg1 : arg1.IsWhole) (arg2 : Memref sig .tc .vmem S3200x256 .f32) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x128 .f32) (harg6 : arg6.IsWhole) (hc0 : ¬cond0_0 i) (hc1 : cond0_1 i)
    (x0 : Vec F S1x1x3200 .i32) (x1 : Vec F S3200x256 .f32) (xs0 : Vec F S1024x256 .f32) (xs1 : Vec F S1024x256 .f32) (xs2 : Vec F S1024x128 .f32) : Vec F S1024x128 .f32 :=
  VS0_2.read (Elt F) (VS0_2.writes (Elt F) VS0_2.junk (kernelRun0_C c i arg1 harg1 arg2 harg2 arg3 harg3 arg4 harg4 arg5 harg5 arg6 harg6 hc0 hc1 x0 x1 xs0 xs1 xs2).2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1024x256 .bf16 × Vec F S1024x256 .f32 × Vec F S1024x256 .f32 × Vec F S1024x128 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 50 = 0 then
      if h1 : (n + 1) % 50 = 49 then
        False.elim (by have hN : n + 1 < 50 := lt_of_lt_of_eq hn (show cfg0.N = 50 from N_0); omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 50 = 49 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.1 (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.1 (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.1 (outsAt0 c n (Nat.lt_of_succ_lt hn)).2.2.1 (outsAt0 c n (Nat.lt_of_succ_lt hn)).2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.1 (outsAt0 c n (Nat.lt_of_succ_lt hn)).2.2.1 (outsAt0 c n (Nat.lt_of_succ_lt hn)).2.2.2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.1 (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.1 (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.1 (outsAt0 c n (Nat.lt_of_succ_lt hn)).2.2.1 (outsAt0 c n (Nat.lt_of_succ_lt hn)).2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.1 (outsAt0 c n (Nat.lt_of_succ_lt hn)).2.2.1 (outsAt0 c n (Nat.lt_of_succ_lt hn)).2.2.2)

/-- `outsAt0` at a point of case A: that case's contents. -/
theorem outsAt0_A (c : Dev nD) (t : Fin cfg0.N) (h0 : t.val % 50 = 0) (h1 : ¬t.val % 50 = 49) :
    outsAt0 V c t.val t.isLt = (out0_A_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t), sout0_A_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t), sout0_A_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 50 = 0) (h1 : ¬t.val % 50 = 49) :
    outsAt0 V c t.val t.isLt = (out0_B_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2, sout0_B_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2, sout0_B_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2, sout0_B_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 50 = 0) (h1 : t.val % 50 = 49) :
    outsAt0 V c t.val t.isLt = (out0_C_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2, sout0_C_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2, sout0_C_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2, sout0_C_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2.1) ∗ owns (c : Thread nD τ) scM0_2 fullShare ((outsAt0 V c n hn).2.2.2)) ∗ restG c)

theorem PhiS_zero (c : Dev nD) (n : ℕ) (h : n ≤ cfg0.N) (hz : n = 0) : PhiS V c n h = Pipeline.ΦA spec0 c := by
  subst hz; rfl

/-- After point `n` (before point `n + 1`): the carried scratch at that point's contents. -/
theorem PhiS_succ (c : Dev nD) (n : ℕ) (hn : n < cfg0.N) :
    PhiS V c (n + 1) hn = iprop(iprop(owns (c : Thread nD τ) scM0_0 fullShare ((outsAt0 V c n hn).2.1) ∗ owns (c : Thread nD τ) scM0_1 fullShare ((outsAt0 V c n hn).2.2.1) ∗ owns (c : Thread nD τ) scM0_2 fullShare ((outsAt0 V c n hn).2.2.2)) ∗ restG c) := rfl

/-- Before a point that is not the first: the carried scratch at what the point before left. -/
theorem PhiS_pos (c : Dev nD) (n : ℕ) (h : n ≤ cfg0.N) (hz : n ≠ 0) :
    PhiS V c n h = iprop(iprop(owns (c : Thread nD τ) scM0_0 fullShare ((outsAt0 V c (n - 1) (by omega)).2.1) ∗ owns (c : Thread nD τ) scM0_1 fullShare ((outsAt0 V c (n - 1) (by omega)).2.2.1) ∗ owns (c : Thread nD τ) scM0_2 fullShare ((outsAt0 V c (n - 1) (by omega)).2.2.2)) ∗ restG c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq0 (c : Dev nD) (w : Fin cfg0.W) : (dat0 V c).A w = V c (Pipeline.arrRef spec0 w) := by
  dsimp only [dat0]

/-- The invariant at a point's start (the proof data at `t.castSucc`), restated at `t.val`. -/
theorem PhiS_castSucc (c : Dev nD) (t : Fin cfg0.N) :
    (dat0 V c).Φ t.castSucc = PhiS V c t.val (Nat.le_of_lt t.isLt) := by
  dsimp only [dat0]; exact Pipeline.Dat.Φ_castSucc (PhiS V c) t

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 50 := lt_of_lt_of_eq t.isLt (show cfg0.N = 50 from N_0)
  by_cases h0 : t.val % 50 = 0
  · by_cases h1 : t.val % 50 = 49
    · exfalso; omega
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
      by_cases hz : t.val = 0
      · rw [PhiS_castSucc V c t, PhiS_zero V c _ _ hz, PhiA0_eq]
        rw [outsAt0_A V c t h0 h1]
        unfold sout0_A_0 sout0_A_1 sout0_A_2; (try dsimp only)
        iintro ⟨⟨⟨HS0, HS1, HS2⟩, Hg⟩, Ho, ⟨%d0, H0⟩, ⟨%d1, H1⟩, ⟨%d2, H2⟩⟩
        iapply ((kernelRun0_A c (grid0.coords t) _ _ _ _ _ _ _ _ _ _ _ _ ((hcond0_0 t).mpr h0) (fun h => h1 ((hcond0_1 t).mp h)) (iblk0 V c 0 t) (iblk0 V c 1 t)).2.2.2.2 _ Set.univ _)
        isplitl [H0]; · iexact H0
        isplitl [H1]; · iexact H1
        isplitl [H2]; · iexact H2
        isplitl [HS0]; · iexact HS0
        isplitl [HS1]; · iexact HS1
        isplitl [HS2]; · iexact HS2
        iintro ⟨H0, H1, H2, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _)
          iexact Hg
        isplitl [Ho]; · iexact Ho
        isplitl [H0]; · iexact H0
        isplitl [H1]; · iexact H1
        iexists _; iexact H2
      · exfalso; have hN : t.val < 50 := lt_of_lt_of_eq t.isLt (show cfg0.N = 50 from N_0); omega
  · by_cases h1 : t.val % 50 = 49
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2_C t (fun h => h0 ((hcond0_0 t).mp h)) ((hcond0_1 t).mpr h1)], after0_2]
      by_cases hz : t.val = 0
      · exfalso; have hN : t.val < 50 := lt_of_lt_of_eq t.isLt (show cfg0.N = 50 from N_0); omega
      · rw [PhiS_castSucc V c t, PhiS_pos V c _ _ hz]
        rw [outsAt0_C V c t h0 h1]
        unfold out0_C_2 sout0_C_0 sout0_C_1 sout0_C_2; (try dsimp only)
        iintro ⟨⟨⟨HS0, HS1, HS2⟩, Hg⟩, Ho, ⟨%d0, H0⟩, ⟨%d1, H1⟩, ⟨%d2, H2⟩⟩
        iapply ((kernelRun0_C c (grid0.coords t) _ _ _ _ _ _ _ _ _ _ _ _ (fun h => h0 ((hcond0_0 t).mp h)) ((hcond0_1 t).mpr h1) (iblk0 V c 0 t) (iblk0 V c 1 t) _ _ _).2.2.2.2 Set.univ _)
        isplitl [H0]; · iexact H0
        isplitl [H1]; · iexact H1
        isplitl [H2]; · iexists _; iexact H2
        isplitl [HS0]; · iexact HS0
        isplitl [HS1]; · iexact HS1
        isplitl [HS2]; · iexact HS2
        iintro ⟨H0, H1, ⟨%e2, H2⟩, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_C_0 c _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _)
            unfold owns; iexists _; isplitr
            swap; · iexact HS2
            ipureintro; exact View.read_writes_of_cover _ _ _ _ _ (scover0_C_2 c _ _ _ _ _ _ _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover0_C_2 c _ _ _ _ _ _ _ _ _ _ _ _ _ _ _ _ _ _ _ _)
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      by_cases hz : t.val = 0
      · exfalso; have hN : t.val < 50 := lt_of_lt_of_eq t.isLt (show cfg0.N = 50 from N_0); omega
      · rw [PhiS_castSucc V c t, PhiS_pos V c _ _ hz]
        rw [outsAt0_B V c t h0 h1]
        unfold sout0_B_0 sout0_B_1 sout0_B_2; (try dsimp only)
        iintro ⟨⟨⟨HS0, HS1, HS2⟩, Hg⟩, Ho, ⟨%d0, H0⟩, ⟨%d1, H1⟩, ⟨%d2, H2⟩⟩
        iapply ((kernelRun0_B c (grid0.coords t) _ _ _ _ _ _ _ _ _ _ _ _ (fun h => h0 ((hcond0_0 t).mp h)) (fun h => h1 ((hcond0_1 t).mp h)) (iblk0 V c 0 t) (iblk0 V c 1 t) _ _ _).2.2.2.2 _ Set.univ _)
        isplitl [H0]; · iexact H0
        isplitl [H1]; · iexact H1
        isplitl [H2]; · iexact H2
        isplitl [HS0]; · iexact HS0
        isplitl [HS1]; · iexact HS1
        isplitl [HS2]; · iexact HS2
        iintro ⟨H0, H1, H2, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_B_0 c _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _)
            unfold owns; iexists _; isplitr
            swap; · iexact HS2
            ipureintro; exact View.read_writes_of_cover _ _ _ _ _ (scover0_B_2 c _ _ _ _ _ _ _ _ _ _ _ _ _ _ _ _ _ _ _ _)
          iexact Hg
        isplitl [Ho]; · iexact Ho
        isplitl [H0]; · iexact H0
        isplitl [H1]; · iexact H1
        iexists _; iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- What the launch hands the region (`ΦA`) is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

/-- The same after the last point. -/
theorem hout0 (c : Dev nD) : (dat0 V c).Φ (Fin.last cfg0.N) ⊢ Pipeline.ΦA spec0 c :=
  Phi_out0 V c _ (by rw [Fin.val_last]; have : cfg0.N = 50 := N_0; omega)

end Cert.KernelIdeal.Two

end
-- ==== Proof.KI.PassB.lean ====
/- Pass B: the body's run, what the output's blocks hold, and the body's obligation. -/
module

public import proofs.«01_k».proof.Proof.KI.Runs
public import Idealize.ShloMosaic.Lib.Claim

@[expose] public section

set_option maxRecDepth 16384

noncomputable section

namespace Cert.KernelIdeal.Two

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! # REGION 1 of @main: custom_call 1, `cc1__pass_b` (pipeline 1), at the entry contents `V`   -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 3, through which its contents are stated (`View.read_writes_of_cover`: the
    choice does not matter). -/
abbrev VO1_3 : View sig .tc .vmem S640x256 .f32 := (Memref.whole cc1_stg3_0 : Memref sig .tc .vmem S640x256 .f32).view
/-- Each window's current staging memref at point `t`, spelled as the pipeline passes it (`bodyAt1`), and its wholeness. -/
abbrev ms1_0 (t : Fin cfg1.N) : Memref sig .tc .vmem S1x1x640 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S640x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S640x256 .f32 := win1_3.stage (cfg1.slots t 3)
abbrev hs1_3 (t : Fin cfg1.N) : (ms1_3 t).IsWhole := hstage1_3 ((cfg1.slots t 3).cast nbuf1_3)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything — and the core's generator register at `g`, the body runs to the continuation holding the inputs' as they were,
    the register at some state, each output's buffer with its pieces written: the printed functions are their skeletons
    (`*_eq_skeleton`), which `sl_exec` runs (Lib/Exec.lean); the pieces are
    the witness that run finds (assigned when `iexact` hands the buffer to the continuation). -/
noncomputable def kernelRun1_A (c : Dev nD) (i : grid1.Coords) (arg1 : Memref sig .tc .vmem S1x1x640 .i32) (harg1 : arg1.IsWhole) (arg2 : Memref sig .tc .vmem S640x256 .f32) (harg2 : arg2.IsWhole) (arg3 : Memref sig .tc .vmem S1024x256 .bf16) (harg3 : arg3.IsWhole) (arg4 : Memref sig .tc .vmem S640x256 .f32) (harg4 : arg4.IsWhole)
    (x0 : Vec F S1x1x640 .i32) (x1 : Vec F S640x256 .f32) (x2 : Vec F S1024x256 .bf16) (g : PrngReg) :
    { L3 : List (View.Piece (Elt F) S640x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ prngReg c g
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ r, prngReg c r)) -∗ K ⟨⟩))
          ⊢ wp frame (wpE (defs₀ (F := F)) Variants.none c none) E (cc1__pass_b i arg1 harg1 arg2 harg2 arg3 harg3 arg4 harg4) K } := by
  refine ⟨?_, fun E K => ?run⟩
  case run =>
    simp only [cc1__pass_b_eq_skeleton]; unfold cc1__pass_b_skel
    unfold owns
    iintro ⟨⟨%f0, %hf0, H0⟩, ⟨%f1, %hf1, H1⟩, ⟨%f2, %hf2, H2⟩, ⟨%d3, %f3, -, H3⟩, Hg, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact Hg

/-- The run's pieces for output 3 tile its block (1 store of `S640x256`, checked by the kernel's evaluation: Lib/Ring.lean `Piece.tiledL`, linear in the pieces, through a loop's `@[irreducible]` trip theorem too), so they cover it. -/
theorem cover1_A_3 (c : Dev nD) (i : grid1.Coords) (arg1 : Memref sig .tc .vmem S1x1x640 .i32) (harg1 : arg1.IsWhole) (arg2 : Memref sig .tc .vmem S640x256 .f32) (harg2 : arg2.IsWhole) (arg3 : Memref sig .tc .vmem S1024x256 .bf16) (harg3 : arg3.IsWhole) (arg4 : Memref sig .tc .vmem S640x256 .f32) (harg4 : arg4.IsWhole)
    (x0 : Vec F S1x1x640 .i32) (x1 : Vec F S640x256 .f32) (x2 : Vec F S1024x256 .bf16) (g : PrngReg) (y : S640x256.Idx) :
    ∃ pc ∈ (kernelRun1_A c i arg1 harg1 arg2 harg2 arg3 harg3 arg4 harg4 x0 x1 x2 g).1, y ∈ pc.1.set :=
  View.cover_of_tiledL (kernelRun1_A c i arg1 harg1 arg2 harg2 arg3 harg3 arg4 harg4 x0 x1 x2 g).1 S640x256.size (by sl_kernel_rfl) y

/-- What the run leaves in output 3's staging buffer: its pieces read back over junk. -/
def out1_A_3 (c : Dev nD) (i : grid1.Coords) (arg1 : Memref sig .tc .vmem S1x1x640 .i32) (harg1 : arg1.IsWhole) (arg2 : Memref sig .tc .vmem S640x256 .f32) (harg2 : arg2.IsWhole) (arg3 : Memref sig .tc .vmem S1024x256 .bf16) (harg3 : arg3.IsWhole) (arg4 : Memref sig .tc .vmem S640x256 .f32) (harg4 : arg4.IsWhole)
    (x0 : Vec F S1x1x640 .i32) (x1 : Vec F S640x256 .f32) (x2 : Vec F S1024x256 .bf16) (g : PrngReg) : Vec F S640x256 .f32 :=
  VO1_3.read (Elt F) (VO1_3.writes (Elt F) VO1_3.junk (kernelRun1_A c i arg1 harg1 arg2 harg2 arg3 harg3 arg4 harg4 x0 x1 x2 g).1)

/-! ## What the outputs hold after each point -/

/-- What the outputs' staging buffers hold after the body at point `t`: the run's contents at
    the point's memrefs and input blocks (the generator state does not enter: stated at any, `default`). -/
def outsAt1 (c : Dev nD) (t : Fin cfg1.N) : Vec F S640x256 .f32 :=
  out1_A_3 c (grid1.coords t) (ms1_0 t) (hs1_0 t) (ms1_1 t) (hs1_1 t) (ms1_2 t) (hs1_2 t) (ms1_3 t) (hs1_3 t) (iblk1 V c 0 t) (iblk1 V c 1 t) (iblk1 V c 2 t) default

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

/-- The body at any point: the inputs' memrefs hold their blocks (`before1_W`); so the
    run applies; the invariant hands the body the generator register and takes it back at some state; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  rw [show (dat1 V c).Φ t.castSucc = Pipeline.ΦA spec1 c from rfl]; unfold Pipeline.ΦA
  unfold outsAt1
  unfold out1_A_3
  iintro ⟨⟨Hr, ⟨%g, Hg⟩⟩, Ho, ⟨%d0, H0⟩, ⟨%d1, H1⟩, ⟨%d2, H2⟩, ⟨%d3, H3⟩⟩
  iapply ((kernelRun1_A c (grid1.coords t) _ _ _ _ _ _ _ _ (iblk1 V c 0 t) (iblk1 V c 1 t) (iblk1 V c 2 t) g).2 Set.univ _)
  isplitl [H0]; · iexact H0
  isplitl [H1]; · iexact H1
  isplitl [H2]; · iexact H2
  isplitl [H3]; · iexists _; iexact H3
  isplitl [Hg]; · iexact Hg
  iintro ⟨H0, H1, H2, ⟨%e3, H3⟩, Hg⟩
  isplitl [Hr Hg]
  · isplitl [Hr]; · iexact Hr
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1_A_3 c _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Two

end
-- ==== Proof.KI.Run.lean ====
/- The whole kernel's run: the host's reshapes, pass A, pass B. -/
module

public import proofs.«01_k».proof.Proof.KI.PassA
public import proofs.«01_k».proof.Proof.KI.PassB
public import Idealize.ShloMosaic.Lib.Pipeline.RegionsLoop
public import Idealize.ShloMosaic.Lib.Pipeline.FrameSuffix

@[expose] public section

set_option maxRecDepth 16384

noncomputable section

namespace Cert.KernelIdeal.Two

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched: no host stretch writes one and no region may change one (a region reads it
    through an input window or bypasses it) -/

theorem W3_main_arg0 (c : Dev nD) : W3 m ρ c (Proc.devRef .tc main_arg0) = m ((c : Thread nD τ).loc main_arg0) :=
  W3_args m ρ c main_arg0 (by decide)
theorem W3_main_arg1 (c : Dev nD) : W3 m ρ c (Proc.devRef .tc main_arg1) = m ((c : Thread nD τ).loc main_arg1) :=
  W3_args m ρ c main_arg1 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W3`, the generator register at some state. -/
abbrev Tₙ (c : Dev nD) : sProp 𝕄 := iprop(StableHlo.held (c : Thread nD τ) (Pipeline.ucRefs τ sig) (W3 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the launch reads at the end). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 3 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- @main IS the run of the segments: `main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The whole run: the result ends at what pass B leaves in it, both arguments as launched, and every counter at zero. -/
theorem run_all : θ_run defs (onTc (τ := τ) (main (F := F))) ⟨m, fun _ => 0, ρ⟩ (fun r => (∀ c : Dev nD,
      r.2.mem ((c.tc : Thread nD τ).loc main_v3) = W3 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨(fun c =>
      ⟨h c _ (mem_uc main_v3 (by decide)),
       (h c _ (mem_uc main_arg0 (by decide))).trans (W3_main_arg0 m ρ c),
       (h c _ (mem_uc main_arg1 (by decide))).trans (W3_main_arg1 m ρ c)⟩), funext fun g => hz g (.inr (no_unscoped g.2))⟩)

/-- The frame: both arguments end as launched and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => (h.1 c).2, h.2⟩) (run_all m ρ)

end Cert.KernelIdeal.Two

end
-- ==== Proof.Words.lean ====
/- The words the core's generator gives a block of 640 rows: seeded by the block's number plus 42 and drawn once. Both programs
   read their noise from these. -/
module

public import Idealize.ShloMosaic.Lib.Pipeline.Value

@[expose] public section

noncomputable section

namespace Cert.Words

open Idealize.ShloMosaic

/-- The words of block `n`. -/
def block (n : ℕ) : (⟨2, ![640, 256]⟩ : Shape).Idx → BitVec 32 :=
  prngBits (⟨2, ![640, 256]⟩ : Shape) (Nat.le_refl 2) fun j =>
    prngStream (List.map (fun w : BitVec 32 => w.toNat.toUInt32) [Scalar.addi (BitVec.ofNat 32 n) 42#32]) (0 + ↑j)

end Cert.Words

end
-- ==== Proof.KI.Cases.lean ====
/- The blocks pass A's body leaves in its three sums and in its output, case by case, as the payloads of its stores; and
   the block pass B's body leaves. -/
module

public import proofs.«01_k».proof.Proof.KI.PassA
public import proofs.«01_k».proof.Proof.KI.PassB
public import proofs.«01_k».proof.Proof.Words
public import Idealize.ShloMosaic.Lib.Pipeline.Value

@[expose] public section

set_option maxRecDepth 16384

noncomputable section

namespace Cert.KernelIdeal.Two

open Cert.KernelIdeal Cert.KernelIdeal.Gen
open Idealize.ShloMosaic Idealize.ShloMosaic.TcCoe Idealize.ShloMosaic.Tactic
open Idealize.ShloMosaic.Pipeline (Dat)

variable {F : FTy → Type} [FloatOps F] [Named F]

theorem hz2 : (![0, 0] : Fin 2 → Nat) = fun _ => 0 := funext fun a => by fin_cases a <;> rfl
theorem hz3 : (![0, 0, 0] : Fin 3 → Nat) = fun _ => 0 := funext fun a => by fin_cases a <;> rfl

set_option maxHeartbeats 1600000 in
/-- What case A leaves in sum 0. -/
theorem sval_A_0 (c : Dev nD) (i : grid0.Coords) (a1 : Memref sig .tc .vmem S1x1x3200 .i32) (h1 : a1.IsWhole) (a2 : Memref sig .tc .vmem S3200x256 .f32) (h2 : a2.IsWhole) (a3 : Memref sig .tc .vmem S1024x256 .bf16) (h3 : a3.IsWhole) (a4 : Memref sig .tc .vmem S1024x256 .f32) (h4 : a4.IsWhole) (a5 : Memref sig .tc .vmem S1024x256 .f32) (h5 : a5.IsWhole) (a6 : Memref sig .tc .vmem S1024x128 .f32) (h6 : a6.IsWhole) (hc0 : cond0_0 i) (hc1 : ¬cond0_1 i) (x0 : Vec F S1x1x3200 .i32) (x1 : Vec F S3200x256 .f32) :
    sout0_A_0 c i a1 h1 a2 h2 a3 h3 a4 h4 a5 h5 a6 h6 hc0 hc1 x0 x1 = k0_pay7 x0 x1 k0_pay3 := by
  unfold sout0_A_0
  rw [View.read_writes_eq_canon _ _ _ (scover0_A_0 c i a1 h1 a2 h2 a3 h3 a4 h4 a5 h5 a6 h6 hc0 hc1 x0 x1)]
  unfold kernelRun0_A
  dsimp only
  sl_unfold_words
  rw [View.canon_cons_unit_zero (S := S1024x256) hz2, View.readCov_unit_zero (S := S1024x256) _ hz2]
  simp only [View.readAt_eq_ld, h1.read_unread, h2.read_unread, h4.read_unread, View.ld_unit_zero (S := S1x1x3200) hz3, View.ld_unit_zero (S := S3200x256) hz2, View.ld_unit_zero (S := S1024x256) hz2]

set_option maxHeartbeats 1600000 in
/-- What case A leaves in sum 1. -/
theorem sval_A_1 (c : Dev nD) (i : grid0.Coords) (a1 : Memref sig .tc .vmem S1x1x3200 .i32) (h1 : a1.IsWhole) (a2 : Memref sig .tc .vmem S3200x256 .f32) (h2 : a2.IsWhole) (a3 : Memref sig .tc .vmem S1024x256 .bf16) (h3 : a3.IsWhole) (a4 : Memref sig .tc .vmem S1024x256 .f32) (h4 : a4.IsWhole) (a5 : Memref sig .tc .vmem S1024x256 .f32) (h5 : a5.IsWhole) (a6 : Memref sig .tc .vmem S1024x128 .f32) (h6 : a6.IsWhole) (hc0 : cond0_0 i) (hc1 : ¬cond0_1 i) (x0 : Vec F S1x1x3200 .i32) (x1 : Vec F S3200x256 .f32) :
    sout0_A_1 c i a1 h1 a2 h2 a3 h3 a4 h4 a5 h5 a6 h6 hc0 hc1 x0 x1 = k0_pay8 x0 x1 k0_pay4 := by
  unfold sout0_A_1
  rw [View.read_writes_eq_canon _ _ _ (scover0_A_1 c i a1 h1 a2 h2 a3 h3 a4 h4 a5 h5 a6 h6 hc0 hc1 x0 x1)]
  unfold kernelRun0_A
  dsimp only
  sl_unfold_words
  rw [View.canon_cons_unit_zero (S := S1024x256) hz2, View.readCov_unit_zero (S := S1024x256) _ hz2]
  simp only [View.readAt_eq_ld, h1.read_unread, h2.read_unread, h5.read_unread, View.ld_unit_zero (S := S1x1x3200) hz3, View.ld_unit_zero (S := S3200x256) hz2, View.ld_unit_zero (S := S1024x256) hz2]

set_option maxHeartbeats 1600000 in
/-- What case A leaves in sum 2. -/
theorem sval_A_2 (c : Dev nD) (i : grid0.Coords) (a1 : Memref sig .tc .vmem S1x1x3200 .i32) (h1 : a1.IsWhole) (a2 : Memref sig .tc .vmem S3200x256 .f32) (h2 : a2.IsWhole) (a3 : Memref sig .tc .vmem S1024x256 .bf16) (h3 : a3.IsWhole) (a4 : Memref sig .tc .vmem S1024x256 .f32) (h4 : a4.IsWhole) (a5 : Memref sig .tc .vmem S1024x256 .f32) (h5 : a5.IsWhole) (a6 : Memref sig .tc .vmem S1024x128 .f32) (h6 : a6.IsWhole) (hc0 : cond0_0 i) (hc1 : ¬cond0_1 i) (x0 : Vec F S1x1x3200 .i32) (x1 : Vec F S3200x256 .f32) :
    sout0_A_2 c i a1 h1 a2 h2 a3 h3 a4 h4 a5 h5 a6 h6 hc0 hc1 x0 x1 = k0_pay1 (k0_pay9 x0 k0_pay5) := by
  unfold sout0_A_2
  rw [View.read_writes_eq_canon _ _ _ (scover0_A_2 c i a1 h1 a2 h2 a3 h3 a4 h4 a5 h5 a6 h6 hc0 hc1 x0 x1)]
  unfold kernelRun0_A
  dsimp only
  sl_unfold_words
  rw [View.canon_cons_unit_zero (S := S1024x128) hz2, View.readCov_unit_zero (S := S1024x128) _ hz2]
  simp only [View.readAt_eq_ld, h1.read_unread, h2.read_unread, h6.read_unread, View.ld_unit_zero (S := S1x1x3200) hz3, View.ld_unit_zero (S := S3200x256) hz2, View.ld_unit_zero (S := S1024x128) hz2]

set_option maxHeartbeats 1600000 in
/-- What case B leaves in sum 0. -/
theorem sval_B_0 (c : Dev nD) (i : grid0.Coords) (a1 : Memref sig .tc .vmem S1x1x3200 .i32) (h1 : a1.IsWhole) (a2 : Memref sig .tc .vmem S3200x256 .f32) (h2 : a2.IsWhole) (a3 : Memref sig .tc .vmem S1024x256 .bf16) (h3 : a3.IsWhole) (a4 : Memref sig .tc .vmem S1024x256 .f32) (h4 : a4.IsWhole) (a5 : Memref sig .tc .vmem S1024x256 .f32) (h5 : a5.IsWhole) (a6 : Memref sig .tc .vmem S1024x128 .f32) (h6 : a6.IsWhole) (hc0 : ¬cond0_0 i) (hc1 : ¬cond0_1 i) (x0 : Vec F S1x1x3200 .i32) (x1 : Vec F S3200x256 .f32) (xs0 : Vec F S1024x256 .f32) (xs1 : Vec F S1024x256 .f32) (xs2 : Vec F S1024x128 .f32) :
    sout0_B_0 c i a1 h1 a2 h2 a3 h3 a4 h4 a5 h5 a6 h6 hc0 hc1 x0 x1 xs0 xs1 xs2 = k0_pay7 x0 x1 xs0 := by
  unfold sout0_B_0
  rw [View.read_writes_eq_canon _ _ _ (scover0_B_0 c i a1 h1 a2 h2 a3 h3 a4 h4 a5 h5 a6 h6 hc0 hc1 x0 x1 xs0 xs1 xs2)]
  unfold kernelRun0_B
  dsimp only
  rw [View.canon_unit_zero (S := S1024x256) hz2]
  simp only [View.readAt_eq_ld, h1.read_unread, h2.read_unread, h4.read_unread, View.ld_unit_zero (S := S1x1x3200) hz3, View.ld_unit_zero (S := S3200x256) hz2, View.ld_unit_zero (S := S1024x256) hz2]

set_option maxHeartbeats 1600000 in
/-- What case B leaves in sum 1. -/
theorem sval_B_1 (c : Dev nD) (i : grid0.Coords) (a1 : Memref sig .tc .vmem S1x1x3200 .i32) (h1 : a1.IsWhole) (a2 : Memref sig .tc .vmem S3200x256 .f32) (h2 : a2.IsWhole) (a3 : Memref sig .tc .vmem S1024x256 .bf16) (h3 : a3.IsWhole) (a4 : Memref sig .tc .vmem S1024x256 .f32) (h4 : a4.IsWhole) (a5 : Memref sig .tc .vmem S1024x256 .f32) (h5 : a5.IsWhole) (a6 : Memref sig .tc .vmem S1024x128 .f32) (h6 : a6.IsWhole) (hc0 : ¬cond0_0 i) (hc1 : ¬cond0_1 i) (x0 : Vec F S1x1x3200 .i32) (x1 : Vec F S3200x256 .f32) (xs0 : Vec F S1024x256 .f32) (xs1 : Vec F S1024x256 .f32) (xs2 : Vec F S1024x128 .f32) :
    sout0_B_1 c i a1 h1 a2 h2 a3 h3 a4 h4 a5 h5 a6 h6 hc0 hc1 x0 x1 xs0 xs1 xs2 = k0_pay8 x0 x1 xs1 := by
  unfold sout0_B_1
  rw [View.read_writes_eq_canon _ _ _ (scover0_B_1 c i a1 h1 a2 h2 a3 h3 a4 h4 a5 h5 a6 h6 hc0 hc1 x0 x1 xs0 xs1 xs2)]
  unfold kernelRun0_B
  dsimp only
  rw [View.canon_unit_zero (S := S1024x256) hz2]
  simp only [View.readAt_eq_ld, h1.read_unread, h2.read_unread, h5.read_unread, View.ld_unit_zero (S := S1x1x3200) hz3, View.ld_unit_zero (S := S3200x256) hz2, View.ld_unit_zero (S := S1024x256) hz2]

set_option maxHeartbeats 1600000 in
/-- What case B leaves in sum 2. -/
theorem sval_B_2 (c : Dev nD) (i : grid0.Coords) (a1 : Memref sig .tc .vmem S1x1x3200 .i32) (h1 : a1.IsWhole) (a2 : Memref sig .tc .vmem S3200x256 .f32) (h2 : a2.IsWhole) (a3 : Memref sig .tc .vmem S1024x256 .bf16) (h3 : a3.IsWhole) (a4 : Memref sig .tc .vmem S1024x256 .f32) (h4 : a4.IsWhole) (a5 : Memref sig .tc .vmem S1024x256 .f32) (h5 : a5.IsWhole) (a6 : Memref sig .tc .vmem S1024x128 .f32) (h6 : a6.IsWhole) (hc0 : ¬cond0_0 i) (hc1 : ¬cond0_1 i) (x0 : Vec F S1x1x3200 .i32) (x1 : Vec F S3200x256 .f32) (xs0 : Vec F S1024x256 .f32) (xs1 : Vec F S1024x256 .f32) (xs2 : Vec F S1024x128 .f32) :
    sout0_B_2 c i a1 h1 a2 h2 a3 h3 a4 h4 a5 h5 a6 h6 hc0 hc1 x0 x1 xs0 xs1 xs2 = k0_pay1 (k0_pay9 x0 xs2) := by
  unfold sout0_B_2
  rw [View.read_writes_eq_canon _ _ _ (scover0_B_2 c i a1 h1 a2 h2 a3 h3 a4 h4 a5 h5 a6 h6 hc0 hc1 x0 x1 xs0 xs1 xs2)]
  unfold kernelRun0_B
  dsimp only
  sl_unfold_words
  rw [View.canon_unit_zero (S := S1024x128) hz2]
  simp only [View.readAt_eq_ld, h1.read_unread, h2.read_unread, h6.read_unread, View.ld_unit_zero (S := S1x1x3200) hz3, View.ld_unit_zero (S := S3200x256) hz2, View.ld_unit_zero (S := S1024x128) hz2]

set_option maxHeartbeats 1600000 in
/-- What case C leaves in sum 0. -/
theorem sval_C_0 (c : Dev nD) (i : grid0.Coords) (a1 : Memref sig .tc .vmem S1x1x3200 .i32) (h1 : a1.IsWhole) (a2 : Memref sig .tc .vmem S3200x256 .f32) (h2 : a2.IsWhole) (a3 : Memref sig .tc .vmem S1024x256 .bf16) (h3 : a3.IsWhole) (a4 : Memref sig .tc .vmem S1024x256 .f32) (h4 : a4.IsWhole) (a5 : Memref sig .tc .vmem S1024x256 .f32) (h5 : a5.IsWhole) (a6 : Memref sig .tc .vmem S1024x128 .f32) (h6 : a6.IsWhole) (hc0 : ¬cond0_0 i) (hc1 : cond0_1 i) (x0 : Vec F S1x1x3200 .i32) (x1 : Vec F S3200x256 .f32) (xs0 : Vec F S1024x256 .f32) (xs1 : Vec F S1024x256 .f32) (xs2 : Vec F S1024x128 .f32) :
    sout0_C_0 c i a1 h1 a2 h2 a3 h3 a4 h4 a5 h5 a6 h6 hc0 hc1 x0 x1 xs0 xs1 xs2 = k0_pay7 x0 x1 xs0 := by
  unfold sout0_C_0
  rw [View.read_writes_eq_canon _ _ _ (scover0_C_0 c i a1 h1 a2 h2 a3 h3 a4 h4 a5 h5 a6 h6 hc0 hc1 x0 x1 xs0 xs1 xs2)]
  unfold kernelRun0_C
  dsimp only
  sl_unfold_words
  rw [View.canon_unit_zero (S := S1024x256) hz2]
  simp only [View.readAt_eq_ld, h1.read_unread, h2.read_unread, h4.read_unread, View.ld_unit_zero (S := S1x1x3200) hz3, View.ld_unit_zero (S := S3200x256) hz2, View.ld_unit_zero (S := S1024x256) hz2]

set_option maxHeartbeats 1600000 in
/-- What case C leaves in sum 1. -/
theorem sval_C_1 (c : Dev nD) (i : grid0.Coords) (a1 : Memref sig .tc .vmem S1x1x3200 .i32) (h1 : a1.IsWhole) (a2 : Memref sig .tc .vmem S3200x256 .f32) (h2 : a2.IsWhole) (a3 : Memref sig .tc .vmem S1024x256 .bf16) (h3 : a3.IsWhole) (a4 : Memref sig .tc .vmem S1024x256 .f32) (h4 : a4.IsWhole) (a5 : Memref sig .tc .vmem S1024x256 .f32) (h5 : a5.IsWhole) (a6 : Memref sig .tc .vmem S1024x128 .f32) (h6 : a6.IsWhole) (hc0 : ¬cond0_0 i) (hc1 : cond0_1 i) (x0 : Vec F S1x1x3200 .i32) (x1 : Vec F S3200x256 .f32) (xs0 : Vec F S1024x256 .f32) (xs1 : Vec F S1024x256 .f32) (xs2 : Vec F S1024x128 .f32) :
    sout0_C_1 c i a1 h1 a2 h2 a3 h3 a4 h4 a5 h5 a6 h6 hc0 hc1 x0 x1 xs0 xs1 xs2 = k0_pay8 x0 x1 xs1 := by
  unfold sout0_C_1
  rw [View.read_writes_eq_canon _ _ _ (scover0_C_1 c i a1 h1 a2 h2 a3 h3 a4 h4 a5 h5 a6 h6 hc0 hc1 x0 x1 xs0 xs1 xs2)]
  unfold kernelRun0_C
  dsimp only
  sl_unfold_words
  rw [View.canon_unit_zero (S := S1024x256) hz2]
  simp only [View.readAt_eq_ld, h1.read_unread, h2.read_unread, h5.read_unread, View.ld_unit_zero (S := S1x1x3200) hz3, View.ld_unit_zero (S := S3200x256) hz2, View.ld_unit_zero (S := S1024x256) hz2]

set_option maxHeartbeats 1600000 in
/-- What case C leaves in sum 2. -/
theorem sval_C_2 (c : Dev nD) (i : grid0.Coords) (a1 : Memref sig .tc .vmem S1x1x3200 .i32) (h1 : a1.IsWhole) (a2 : Memref sig .tc .vmem S3200x256 .f32) (h2 : a2.IsWhole) (a3 : Memref sig .tc .vmem S1024x256 .bf16) (h3 : a3.IsWhole) (a4 : Memref sig .tc .vmem S1024x256 .f32) (h4 : a4.IsWhole) (a5 : Memref sig .tc .vmem S1024x256 .f32) (h5 : a5.IsWhole) (a6 : Memref sig .tc .vmem S1024x128 .f32) (h6 : a6.IsWhole) (hc0 : ¬cond0_0 i) (hc1 : cond0_1 i) (x0 : Vec F S1x1x3200 .i32) (x1 : Vec F S3200x256 .f32) (xs0 : Vec F S1024x256 .f32) (xs1 : Vec F S1024x256 .f32) (xs2 : Vec F S1024x128 .f32) :
    sout0_C_2 c i a1 h1 a2 h2 a3 h3 a4 h4 a5 h5 a6 h6 hc0 hc1 x0 x1 xs0 xs1 xs2 = k0_pay1 (k0_pay9 x0 xs2) := by
  unfold sout0_C_2
  rw [View.read_writes_eq_canon _ _ _ (scover0_C_2 c i a1 h1 a2 h2 a3 h3 a4 h4 a5 h5 a6 h6 hc0 hc1 x0 x1 xs0 xs1 xs2)]
  unfold kernelRun0_C
  dsimp only
  sl_unfold_words
  rw [View.canon_unit_zero (S := S1024x128) hz2]
  simp only [View.readAt_eq_ld, h1.read_unread, h2.read_unread, h6.read_unread, View.ld_unit_zero (S := S1x1x3200) hz3, View.ld_unit_zero (S := S3200x256) hz2, View.ld_unit_zero (S := S1024x128) hz2]

set_option maxHeartbeats 1600000 in
/-- What case C leaves in the output: the deviations of the three sums it has just finished, the counts read from the first lane. -/
theorem oval_C (c : Dev nD) (i : grid0.Coords) (a1 : Memref sig .tc .vmem S1x1x3200 .i32) (h1 : a1.IsWhole) (a2 : Memref sig .tc .vmem S3200x256 .f32) (h2 : a2.IsWhole) (a3 : Memref sig .tc .vmem S1024x256 .bf16) (h3 : a3.IsWhole) (a4 : Memref sig .tc .vmem S1024x256 .f32) (h4 : a4.IsWhole) (a5 : Memref sig .tc .vmem S1024x256 .f32) (h5 : a5.IsWhole) (a6 : Memref sig .tc .vmem S1024x128 .f32) (h6 : a6.IsWhole) (hc0 : ¬cond0_0 i) (hc1 : cond0_1 i) (x0 : Vec F S1x1x3200 .i32) (x1 : Vec F S3200x256 .f32) (xs0 : Vec F S1024x256 .f32) (xs1 : Vec F S1024x256 .f32) (xs2 : Vec F S1024x128 .f32) :
    out0_C_2 c i a1 h1 a2 h2 a3 h3 a4 h4 a5 h5 a6 h6 hc0 hc1 x0 x1 xs0 xs1 xs2 = k0_pay2 (View.ld (Val := Elt F) (e' := .f32) (k0_pay1 (k0_pay9 x0 xs2)) (Rect.unit (s := S1024x128) ![0, 0] S1024x1.size inb_S1024x128_S1024x1_0_0))
      (k0_pay7 x0 x1 xs0) (k0_pay8 x0 x1 xs1) := by
  unfold out0_C_2
  rw [View.read_writes_eq_canon _ _ _ (cover0_C_2 c i a1 h1 a2 h2 a3 h3 a4 h4 a5 h5 a6 h6 hc0 hc1 x0 x1 xs0 xs1 xs2)]
  unfold kernelRun0_C
  dsimp only
  sl_unfold_words
  rw [View.canon_unit_zero (S := S1024x256) hz2]
  simp only [View.readAt_eq_ld, h1.read_unread, h2.read_unread, h4.read_unread, h5.read_unread, h6.read_unread, View.ld_unit_zero (S := S1x1x3200) hz3, View.ld_unit_zero (S := S3200x256) hz2, View.ld_unit_zero (S := S1024x256) hz2, View.ld_unit_zero (S := S1024x128) hz2]
  rw [View.readCov_unit_zero (S := S1024x256) _ hz2, View.readCov_unit_zero (S := S1024x256) _ hz2, View.readCov_eq_canon', View.canon_unit_zero (S := S1024x128) hz2]

set_option maxHeartbeats 1600000 in
/-- What pass B's body leaves in its output block. -/
theorem oval1 (c : Dev nD) (i : grid1.Coords) (a1 : Memref sig .tc .vmem S1x1x640 .i32) (h1 : a1.IsWhole) (a2 : Memref sig .tc .vmem S640x256 .f32) (h2 : a2.IsWhole) (a3 : Memref sig .tc .vmem S1024x256 .bf16) (h3 : a3.IsWhole) (a4 : Memref sig .tc .vmem S640x256 .f32) (h4 : a4.IsWhole) (x0 : Vec F S1x1x640 .i32) (x1 : Vec F S640x256 .f32) (x2 : Vec F S1024x256 .bf16) (g : PrngReg) :
    out1_A_3 c i a1 h1 a2 h2 a3 h3 a4 h4 x0 x1 x2 g = k1_pay1 x0 x1 x2 (Cert.Words.block (i 0).val) := by
  unfold out1_A_3
  rw [View.read_writes_eq_canon _ _ _ (cover1_A_3 c i a1 h1 a2 h2 a3 h3 a4 h4 x0 x1 x2 g)]
  unfold kernelRun1_A
  dsimp only
  sl_unfold_words
  rw [View.canon_unit_zero (S := S640x256) hz2]
  simp only [View.readAt_eq_ld, h1.read_unread, h2.read_unread, h3.read_unread, View.ld_unit_zero (S := S1x1x640) hz3, View.ld_unit_zero (S := S640x256) hz2, View.ld_unit_zero (S := S1024x256) hz2]
  rfl

end Cert.KernelIdeal.Two

end
-- ==== Proof.Maths.lean ====
/- The mathematics of the two passes over real numbers, with no program in sight: a class's sum of squared deviations is its sum of
   squares less the square of its sum over its count; sums over blocks of rows are sums over rows; a sum of extended reals that are real. -/
module

public import Idealize.ShloMosaic.PureOps.Ideal.Laws

@[expose] public section

noncomputable section

namespace Cert.Maths

open Idealize.ShloMosaic

/-- A finite sum of reals, read as extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (a b : ℝ) : ((max a b : ℝ) : EReal) = max (a : EReal) (b : EReal) := by
  rcases le_total a b with h | h
  · rw [max_eq_right h, max_eq_right (EReal.coe_le_coe_iff.2 h)]
  · rw [max_eq_left h, max_eq_left (EReal.coe_le_coe_iff.2 h)]

theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

theorem sqrt_coe (a : ℝ) (ha : 0 ≤ a) : Ideal.sqrt (a : EReal) = ((Real.sqrt a : ℝ) : EReal) := by
  show (if a < 0 then (⊥ : EReal) else (Real.sqrt a : EReal)) = _
  rw [if_neg (not_lt.2 ha)]

variable {ι : Type} [Fintype ι]

/-- Over a class `p`: the squared deviations from the mean (its sum over `max n 1`, `n` its count) add up to the sum of squares less the
    square of the sum over `max n 1`. -/
theorem sum_dev_sq (p : ι → Prop) [DecidablePred p] (x : ι → ℝ) :
    (∑ i, if p i then (x i - (∑ i, if p i then x i else 0) / max (∑ i, if p i then (1 : ℝ) else 0) 1) * (x i - (∑ i, if p i then x i else 0) / max (∑ i, if p i then (1 : ℝ) else 0) 1) else 0)
      = (∑ i, if p i then x i * x i else 0)
        - (∑ i, if p i then x i else 0) * (∑ i, if p i then x i else 0) / max (∑ i, if p i then (1 : ℝ) else 0) 1 := by
  set s := ∑ i, if p i then x i else 0 with hs
  set n := ∑ i, if p i then (1 : ℝ) else 0 with hn
  set m := s / max n 1 with hm
  have hexp : (∑ i, if p i then (x i - m) * (x i - m) else 0)
      = (∑ i, if p i then x i * x i else 0) - 2 * m * s + m * m * n := by
    rw [hs, hn, Finset.mul_sum, Finset.mul_sum, ← Finset.sum_sub_distrib, ← Finset.sum_add_distrib]
    refine Finset.sum_congr rfl fun i _ => ?_
    by_cases h : p i <;> simp [h]
    ring
  rw [hexp]
  have hcard : n = ((Finset.univ.filter p).card : ℝ) := by rw [hn, Finset.sum_ite]; simp
  by_cases h0 : (Finset.univ.filter p).card = 0
  · have hp : ∀ i, ¬ p i := fun i hi => by
      have := Finset.card_eq_zero.1 h0
      have hi' : i ∈ Finset.univ.filter p := by simp [hi]
      rw [this] at hi'; exact absurd hi' (Finset.notMem_empty _)
    have hs0 : s = 0 := by rw [hs]; simp [hp]
    have hm0 : m = 0 := by rw [hm, hs0, zero_div]
    rw [hm0, hs0]; simp
  · have h1 : (1 : ℝ) ≤ n := by rw [hcard]; exact_mod_cast Nat.one_le_iff_ne_zero.2 h0
    have hmax : max n 1 = n := max_eq_left h1
    have hn0 : n ≠ 0 := by linarith
    rw [hm, hmax]
    field_simp
    ring

/-- A sum over `(b + 1)` blocks of `w` is the sum over `b` blocks and the last block. -/
theorem sum_block (f : ℕ → ℝ) (w b : ℕ) :
    ∑ n ∈ Finset.range (w * (b + 1)), f n = (∑ n ∈ Finset.range (w * b), f n) + ∑ r : Fin w, f (w * b + r.val) := by
  rw [Nat.mul_succ, Finset.sum_range_add, Finset.sum_range (fun x => f (w * b + x))]

/-- A one-hot row picks one term. -/
theorem sum_pick {n : ℕ} (g : Fin n → EReal) (k : Fin n) :
    ∑ a : Fin n, (if a = k then (1 : EReal) else 0) * g a = g k := by
  rw [Finset.sum_eq_single k]
  · rw [if_pos rfl, one_mul]
  · intro b _ hb; rw [if_neg hb, zero_mul]
  · intro h; exact absurd (Finset.mem_univ k) h

end Cert.Maths

end
-- ==== Proof.Noise.lean ====
/- The noise a word gives, as a real number; the noisy feature made of it; and a row of them divided by its length. -/
module

public import Idealize.ShloMosaic.Lib.ValueIdx
public import proofs.«01_k».proof.Proof.Maths
public import proofs.«01_k».proof.Proof.Words

@[expose] public section

noncomputable section

namespace Cert.Noise

open Idealize.ShloMosaic Idealize.ShloMosaic.ValueIdx

/-- The word's top 23 bits over 2^23, less a half. -/
def unit (w : BitVec 32) : ℝ := ((w.toNat / 512 : ℕ) : ℝ) * (2 : ℝ) ^ (-23 : ℤ) - 1 / 2

/-- The noise never leaves `[-√3, √3]`, whatever the word. -/
theorem noise_bounded (w : BitVec 32) : |Real.sqrt 12 * unit w| ≤ Real.sqrt 3 := by
  have hw := w.isLt
  have hq : ((w.toNat / 512 : ℕ) : ℝ) ≤ 8388608 := by exact_mod_cast (by omega : w.toNat / 512 ≤ 8388608)
  have h0 : (0 : ℝ) ≤ ((w.toNat / 512 : ℕ) : ℝ) := Nat.cast_nonneg _
  have hu : |unit w| ≤ 1 / 2 := by
    unfold unit
    rw [show (2 : ℝ) ^ (-23 : ℤ) = 1 / 8388608 from by norm_num, abs_le]
    constructor <;> linarith
  have h12 : Real.sqrt 12 = 2 * Real.sqrt 3 := by
    rw [show (12 : ℝ) = 2 ^ 2 * 3 from by norm_num, Real.sqrt_mul (by norm_num), Real.sqrt_sq (by norm_num)]
  rw [abs_mul, abs_of_nonneg (Real.sqrt_nonneg _), h12]
  have := Real.sqrt_nonneg 3
  nlinarith

/-- A feature with its noise: the class's deviation times uniform noise of unit variance, a thousandth of it. -/
def feat (x s : ℝ) (w : BitVec 32) : ℝ := x + 1000⁻¹ * Real.sqrt 12 * s * unit w

/-- A row over its length, the length kept from zero. -/
def out (f : Fin 256 → ℝ) (j : Fin 256) : EReal :=
  Ideal.div (f j : EReal) (max (Ideal.sqrt (∑ k, (f k : EReal) * (f k : EReal))) (Ideal.ofBits .f32 0x2B8CBCCC#32))

/-- The deviation of a class and column from its sum, sum of squares and count. -/
def dev (s q n : ℝ) : ℝ := Real.sqrt (max ((q - s * s / max n 1) / max (n - 1) 1) 0)

/-- The sum over the rows of class `k` among the first `n`. -/
def part (L : ℕ → ℕ) (Y : ℕ → ℝ) (n k : ℕ) : ℝ := ∑ r ∈ Finset.range n, if L r = k then Y r else 0

/-- The deviation of class `k`, column `j` over all the rows. -/
def devs (L : ℕ → ℕ) (X : ℕ → Fin 256 → ℝ) (k : ℕ) (j : Fin 256) : ℝ :=
  dev (part L (fun r => X r j) 160000 k) (part L (fun r => X r j ^ 2) 160000 k) (part L (fun _ => 1) 160000 k)

/-- The result at row `n`, column `j`. -/
def res (L : ℕ → ℕ) (X : ℕ → Fin 256 → ℝ) (n : Fin 160000) (j : Fin 256) : EReal :=
  out (fun k => feat (X n.val k) (devs L X (L n.val) k)
    (Cert.Words.block (n.val / 640) (ix2 (⟨n.val % 640, Nat.mod_lt _ (by norm_num)⟩ : Fin 640) k))) j

theorem shr (w : BitVec 32) : IntOp.shrui .vector w 9#32 = w >>> 9 := by
  rfl

theorem shr_toNat (w : BitVec 32) : (w >>> 9).toNat = w.toNat / 512 := by
  rw [BitVec.toNat_ushiftRight, Nat.shiftRight_eq_div_pow]

theorem or_toNat (w : BitVec 32) : ((w >>> 9) ||| 1065353216#32).toNat = 2 ^ 23 * 127 + w.toNat / 512 := by
  rw [BitVec.toNat_or, shr_toNat, Nat.or_comm]
  have hw := w.isLt
  exact (Nat.two_pow_add_eq_or_of_lt (show w.toNat / 512 < 2 ^ 23 by omega) 127).symm

/-- The word built with exponent zero reads one plus the fraction. -/
theorem ofBits_or (w : BitVec 32) :
    Ideal.ofBits .f32 ((w >>> 9) ||| 1065353216#32) = ((1 + ((w.toNat / 512 : ℕ) : ℝ) * (2 : ℝ) ^ (-23 : ℤ) : ℝ) : EReal) := by
  have hw := w.isLt
  have h := or_toNat w
  have h1 : (((w >>> 9) ||| 1065353216#32).extractLsb' 31 1 == 1#1) = false := by
    rw [beq_eq_false_iff_ne]
    intro e
    have := congrArg BitVec.toNat e
    rw [BitVec.extractLsb'_toNat, h, Nat.shiftRight_eq_div_pow] at this
    norm_num at this
    omega
  have h2 : (((w >>> 9) ||| 1065353216#32).extractLsb' 23 8).toNat = 127 := by
    rw [BitVec.extractLsb'_toNat, h, Nat.shiftRight_eq_div_pow]
    omega
  have h3 : (((w >>> 9) ||| 1065353216#32).extractLsb' 0 23).toNat = w.toNat / 512 := by
    rw [BitVec.extractLsb'_toNat, h, Nat.shiftRight_eq_div_pow]
    omega
  show Ideal.ieee 8 23 _ = _
  unfold Ideal.ieee
  simp only [show 8 + 23 = 31 from rfl, h1, h2, h3]
  rw [if_neg (by norm_num), if_neg (by norm_num)]
  congr 1
  generalize w.toNat / 512 = q
  push_cast
  norm_num
  ring

theorem half : Ideal.ofBits .f32 0x3FC00000#32 = ((3 / 2 : ℝ) : EReal) := by
  simp [Ideal.ofBits, Ideal.ieee]
  rw [← EReal.coe_mul]; norm_num

end Cert.Noise

end
-- ==== Proof.KI.PayA.lean ====
/- What one point of the statistics launch computes, over the reals: the one-hot matrix of a block's labels, the three products
   added to the running sums, and the deviation taken from the totals. -/
module

public import proofs.«01_k».proof.Proof.KI.Cases
public import proofs.«01_k».proof.Proof.Noise
public import Idealize.ShloMosaic.Lib.ValueIdx
public import Idealize.ShloMosaic.Lib.ValueLayout

@[expose] public section

noncomputable section

namespace Cert.KernelIdeal.Two

open Cert.Noise (part dev devs res)
open Idealize.ShloMosaic Idealize.ShloMosaic.ValueIdx Cert.KernelIdeal Cert.KernelIdeal.Gen

/-- The comparison of two words, widened and read as a number, is one where they are equal and zero elsewhere. -/
theorem hot (a b : BitVec 32) :
    (FloatOps.sitofp (F := Ideal) .f32 ((IntOp.cmpi .eq a b).setWidth 32)) = if a = b then ((1 : ℝ) : EReal) else ((0 : ℝ) : EReal) := by
  show (((((IntOp.cmpi .eq a b).setWidth 32 : BitVec 32).toInt : ℤ) : ℝ) : EReal) = _
  by_cases h : a = b
  · subst h
    rw [if_pos rfl, show IntOp.cmpi .eq a a = 1#1 from by simp [IntOp.cmpi]]
    norm_num
  · rw [if_neg h, show IntOp.cmpi .eq a b = 0#1 from by simp only [IntOp.cmpi, beq_eq_false_iff_ne.mpr h]; rfl]
    norm_num

/-- Two counts below the words' range name the same word only when equal. -/
theorem ofNat_eq_iff {a b : ℕ} (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · rintro rfl; rfl

theorem one_bf16 : Ideal.ofBits .bf16 0x3F80#16 = ((1 : ℝ) : EReal) := by
  simp [Ideal.ofBits, Ideal.ieee]
  rw [← EReal.coe_mul]; norm_num

theorem one_f32 : Ideal.ofBits .f32 0x3F800000#32 = ((1 : ℝ) : EReal) := by
  simp [Ideal.ofBits, Ideal.ieee]
  rw [← EReal.coe_mul]; norm_num

/-- The one-hot matrix at class `k`, row `r`. -/
theorem pay6_apply (x0 : Vec Ideal S1x1x3200 .i32) (L : ℕ → ℕ) (hL : ∀ r : Fin 3200, x0 (ix3 0 0 r) = BitVec.ofNat 32 (L r.val))
    (hb : ∀ n, L n < 1000) (k : Fin 1024) (r : Fin 3200) :
    k0_pay6 (F := Ideal) x0 (ix2 k r) = if L r.val = k.val then ((1 : ℝ) : EReal) else ((0 : ℝ) : EReal) := by
  have h1 : iota .tc S1024x3200 32 [0] iota_S1024x3200_d0_w32 (ix2 k r) = BitVec.ofNat 32 k.val := iota_single_apply _ _ _ _ _ _
  have h2 : broadcastTo S1024x3200 (shapeCast S1x3200 x0 shapeCasts_S1x1x3200_S1x3200) broadcasts_S1x3200_S1024x3200 (ix2 k r) = BitVec.ofNat 32 (L r.val) := by
    rw [show broadcastTo S1024x3200 (shapeCast S1x3200 x0 shapeCasts_S1x1x3200_S1x3200) broadcasts_S1x3200_S1024x3200 (ix2 k r) = shapeCast S1x3200 x0 shapeCasts_S1x1x3200_S1x3200 (ix2 (0 : Fin 1) r) from broadcastTo_1b_ab_apply _ _ k r]
    rw [show shapeCast S1x3200 x0 shapeCasts_S1x1x3200_S1x3200 (ix2 (0 : Fin 1) r) = x0 (ix3 0 0 r) from shapeCast_1ab_ab_apply x0 _ 0 r]
    exact hL r
  show FloatOps.sitofp (F := Ideal) .f32 ((IntOp.cmpi .eq (iota .tc S1024x3200 32 [0] iota_S1024x3200_d0_w32 (ix2 k r)) (broadcastTo S1024x3200 (shapeCast S1x3200 x0 shapeCasts_S1x1x3200_S1x3200) broadcasts_S1x3200_S1024x3200 (ix2 k r))).setWidth 32) = _
  rw [h1, h2, hot]
  have hk := k.isLt
  have hl := hb r.val
  simp only [ofNat_eq_iff (show k.val < 2 ^ 32 by omega) (show L r.val < 2 ^ 32 by omega), eq_comm]

/-- The product of the one-hot matrix with a block of reals, at class `k`, column `j`. -/
theorem dot_apply (x0 : Vec Ideal S1x1x3200 .i32) (L : ℕ → ℕ) (hL : ∀ r : Fin 3200, x0 (ix3 0 0 r) = BitVec.ofNat 32 (L r.val))
    (hb : ∀ n, L n < 1000) (y : FVec Ideal S3200x256 .bf16) (Y : ℕ → Fin 256 → ℝ) (hY : ∀ r j, y (ix2 r j) = ((Y r.val j : ℝ) : EReal))
    (k : Fin 1024) (j : Fin 256) :
    matmul dot_S1024x3200_S3200x256_S1024x256_1_0_0_1_n_n none (k0_pay6 (F := Ideal) x0) y (constant S1024x256 .f32 0x00000000#32) (ix2 k j)
      = ((∑ r : Fin 3200, if L r.val = k.val then Y r.val j else 0 : ℝ) : EReal) := by
  rw [Cert.Maths.coe_sum]
  refine (Ideal.matmul_constant_zero_apply _ none (k0_pay6 (F := Ideal) x0) y _).trans ?_
  rw [← Equiv.sum_comp (contrEquiv1 dot_S1024x3200_S3200x256_S1024x256_1_0_0_1_n_n 3200 rfl rfl).symm]
  refine Finset.sum_congr rfl fun r _ => ?_
  rw [show dot_S1024x3200_S3200x256_S1024x256_1_0_0_1_n_n.lhsIdx (ix2 k j) ((contrEquiv1 dot_S1024x3200_S3200x256_S1024x256_1_0_0_1_n_n 3200 rfl rfl).symm r) = ix2 k r from by
    funext a; match a with | ⟨0, _⟩ => rfl | ⟨1, _⟩ => rfl]
  rw [show dot_S1024x3200_S3200x256_S1024x256_1_0_0_1_n_n.rhsIdx (ix2 k j) ((contrEquiv1 dot_S1024x3200_S3200x256_S1024x256_1_0_0_1_n_n 3200 rfl rfl).symm r) = ix2 r j from by
    funext a; match a with | ⟨0, _⟩ => rfl | ⟨1, _⟩ => rfl]
  rw [pay6_apply x0 L hL hb, hY]
  by_cases h : L r.val = k.val
  · rw [if_pos h, if_pos h, ← EReal.coe_mul, one_mul]
  · rw [if_neg h, if_neg h, ← EReal.coe_mul, zero_mul]

/-- The same with the 128 columns of ones the counts are taken with. -/
theorem dot1_apply (x0 : Vec Ideal S1x1x3200 .i32) (L : ℕ → ℕ) (hL : ∀ r : Fin 3200, x0 (ix3 0 0 r) = BitVec.ofNat 32 (L r.val))
    (hb : ∀ n, L n < 1000) (y : FVec Ideal S3200x128 .bf16) (hY : ∀ r j, y (ix2 r j) = ((1 : ℝ) : EReal))
    (k : Fin 1024) (j : Fin 128) :
    matmul dot_S1024x3200_S3200x128_S1024x128_1_0_0_1_n_n none (k0_pay6 (F := Ideal) x0) y (constant S1024x128 .f32 0x00000000#32) (ix2 k j)
      = ((∑ r : Fin 3200, if L r.val = k.val then (1 : ℝ) else 0 : ℝ) : EReal) := by
  rw [Cert.Maths.coe_sum]
  refine (Ideal.matmul_constant_zero_apply _ none (k0_pay6 (F := Ideal) x0) y _).trans ?_
  rw [← Equiv.sum_comp (contrEquiv1 dot_S1024x3200_S3200x128_S1024x128_1_0_0_1_n_n 3200 rfl rfl).symm]
  refine Finset.sum_congr rfl fun r _ => ?_
  rw [show dot_S1024x3200_S3200x128_S1024x128_1_0_0_1_n_n.lhsIdx (ix2 k j) ((contrEquiv1 dot_S1024x3200_S3200x128_S1024x128_1_0_0_1_n_n 3200 rfl rfl).symm r) = ix2 k r from by
    funext a; match a with | ⟨0, _⟩ => rfl | ⟨1, _⟩ => rfl]
  rw [show dot_S1024x3200_S3200x128_S1024x128_1_0_0_1_n_n.rhsIdx (ix2 k j) ((contrEquiv1 dot_S1024x3200_S3200x128_S1024x128_1_0_0_1_n_n 3200 rfl rfl).symm r) = ix2 r j from by
    funext a; match a with | ⟨0, _⟩ => rfl | ⟨1, _⟩ => rfl]
  rw [pay6_apply x0 L hL hb, hY]
  by_cases h : L r.val = k.val
  · rw [if_pos h, if_pos h, ← EReal.coe_mul, one_mul]
  · rw [if_neg h, if_neg h, ← EReal.coe_mul, zero_mul]

section Point

variable (x0 : Vec Ideal S1x1x3200 .i32) (x1 : Vec Ideal S3200x256 .f32) (L : ℕ → ℕ) (X : ℕ → Fin 256 → ℝ)
  (hL : ∀ r : Fin 3200, x0 (ix3 0 0 r) = BitVec.ofNat 32 (L r.val)) (hb : ∀ n, L n < 1000)
  (hX : ∀ r j, x1 (ix2 r j) = ((X r.val j : ℝ) : EReal))
include hL hb

section
include hX

/-- The running sums after a block. -/
theorem pay7_apply (a : Vec Ideal S1024x256 .f32) (k : Fin 1024) (j : Fin 256) (A : ℝ) (ha : a (ix2 k j) = (A : EReal)) :
    k0_pay7 (F := Ideal) x0 x1 a (ix2 k j) = ((A + ∑ r : Fin 3200, if L r.val = k.val then X r.val j else 0 : ℝ) : EReal) := by
  unfold k0_pay7
  simp only [shapeCast_self]
  show a (ix2 k j) + _ = _
  rw [ha, dot_apply x0 L hL hb (truncf (F := Ideal) .bf16 x1 bitsLt_bf16_f32) X (fun r j => hX r j), ← EReal.coe_add]

/-- The running sums of squares after a block. -/
theorem pay8_apply (a : Vec Ideal S1024x256 .f32) (k : Fin 1024) (j : Fin 256) (A : ℝ) (ha : a (ix2 k j) = (A : EReal)) :
    k0_pay8 (F := Ideal) x0 x1 a (ix2 k j) = ((A + ∑ r : Fin 3200, if L r.val = k.val then X r.val j ^ 2 else 0 : ℝ) : EReal) := by
  unfold k0_pay8
  simp only [shapeCast_self]
  show a (ix2 k j) + _ = _
  rw [ha, dot_apply x0 L hL hb _ (fun r j => X r j ^ 2) (fun r j => ?_), ← EReal.coe_add]
  show x1 (ix2 r j) * x1 (ix2 r j) = _
  rw [hX, ← EReal.coe_mul, sq]

end

/-- The running counts after a block. -/
theorem pay9_apply (a : Vec Ideal S1024x128 .f32) (k : Fin 1024) (j : Fin 128) (A : ℝ) (ha : a (ix2 k j) = (A : EReal)) :
    k0_pay1 (F := Ideal) (k0_pay9 (F := Ideal) x0 a) (ix2 k j) = ((A + ∑ r : Fin 3200, if L r.val = k.val then (1 : ℝ) else 0 : ℝ) : EReal) := by
  unfold k0_pay1 k0_pay9
  simp only [shapeCast_self]
  show a (ix2 k j) + _ = _
  rw [ha, dot1_apply x0 L hL hb _ (fun r j => one_bf16), ← EReal.coe_add]

end Point

theorem pay3_apply (i : S1024x256.Idx) : k0_pay3 (F := Ideal) i = ((0 : ℝ) : EReal) := by
  unfold k0_pay3
  simp only [shapeCast_self]
  exact Ideal.ofBits_zero_f32

theorem pay4_apply (i : S1024x256.Idx) : k0_pay4 (F := Ideal) i = ((0 : ℝ) : EReal) := by
  unfold k0_pay4
  simp only [shapeCast_self]
  exact Ideal.ofBits_zero_f32

theorem pay5_apply (i : S1024x128.Idx) : k0_pay5 (F := Ideal) i = ((0 : ℝ) : EReal) := by
  unfold k0_pay5
  simp only [shapeCast_self]
  exact Ideal.ofBits_zero_f32

/-- The array the last point leaves, at class `k`, column `j`. -/
theorem pay2_apply (n : Vec Ideal S1024x1 .f32) (s q : Vec Ideal S1024x256 .f32) (k : Fin 1024) (j : Fin 256) (N S Q : ℝ)
    (hn : n (ix2 k 0) = (N : EReal)) (hs : s (ix2 k j) = (S : EReal)) (hq : q (ix2 k j) = (Q : EReal)) :
    k0_pay2 (F := Ideal) n s q (ix2 k j) = ((dev S Q N : ℝ) : EReal) := by
  have hbc : ∀ y : FVec Ideal S1024x1 .f32, broadcastTo S1024x256 y broadcasts_S1024x1_S1024x256 (ix2 k j) = y (ix2 k 0) := fun y =>
    broadcastTo_apply y _ _ _ (fun a => by match a with | ⟨0, _⟩ => rfl | ⟨1, _⟩ => rfl)
  unfold k0_pay2
  simp only [Idealize.ShloMosaic.truncf]
  show Ideal.sqrt (max (Ideal.div (q (ix2 k j) - Ideal.div (s (ix2 k j) * s (ix2 k j)) (broadcastTo S1024x256 _ broadcasts_S1024x1_S1024x256 (ix2 k j))) (broadcastTo S1024x256 _ broadcasts_S1024x1_S1024x256 (ix2 k j))) (Ideal.ofBits .f32 0x00000000#32)) = _
  rw [hbc, hbc]
  show Ideal.sqrt (max (Ideal.div (q (ix2 k j) - Ideal.div (s (ix2 k j) * s (ix2 k j)) (max (n (ix2 k 0)) (Ideal.ofBits .f32 0x3F800000#32))) (max (n (ix2 k 0) - Ideal.ofBits .f32 0x3F800000#32) (Ideal.ofBits .f32 0x3F800000#32))) (Ideal.ofBits .f32 0x00000000#32)) = _
  rw [hn, hs, hq, one_f32, Ideal.ofBits_zero_f32, ← EReal.coe_sub, ← EReal.coe_zero, ← Cert.Maths.coe_max, ← Cert.Maths.coe_max, ← EReal.coe_mul,
    Cert.Maths.div_coe _ _ (by positivity), ← EReal.coe_sub, Cert.Maths.div_coe _ _ (by positivity), ← Cert.Maths.coe_max, Cert.Maths.sqrt_coe _ (le_max_right _ _)]
  rfl

end Cert.KernelIdeal.Two

end
-- ==== Proof.KI.PayB.lean ====
/- What one point of the noise launch computes, over the reals: its rows with noise, over their lengths. -/
module

public import proofs.«01_k».proof.Proof.KI.PayA
public import proofs.«01_k».proof.Proof.Noise
public import Idealize.ShloMosaic.Lib.ValueLayoutCasts

@[expose] public section

noncomputable section

namespace Cert.KernelIdeal.Two

open Idealize.ShloMosaic Idealize.ShloMosaic.ValueIdx Cert.KernelIdeal Cert.KernelIdeal.Gen

section Point

variable (x0 : Vec Ideal S1x1x640 .i32) (x1 : Vec Ideal S640x256 .f32) (x2 : Vec Ideal S1024x256 .bf16) (w : IVec S640x256 32)
  (L : ℕ → ℕ) (X : ℕ → Fin 256 → ℝ) (D : ℕ → Fin 256 → ℝ)
  (hL : ∀ r : Fin 640, x0 (ix3 0 0 r) = BitVec.ofNat 32 (L r.val)) (hb : ∀ n, L n < 1000)
  (hX : ∀ r j, x1 (ix2 r j) = ((X r.val j : ℝ) : EReal)) (hD : ∀ k j, x2 (ix2 k j) = ((D k.val j : ℝ) : EReal))

/-- The block's one-hot matrix, classes down. -/
abbrev hotB : FVec Ideal S1024x640 .bf16 :=
  truncf .bf16 (sitofp .f32 (extui 32 (cmpi .eq (iota .tc S1024x640 32 [0] iota_S1024x640_d0_w32) (broadcastTo S1024x640 (shapeCast S1x640 x0 shapeCasts_S1x1x640_S1x640) broadcasts_S1x640_S1024x640)) natLt_1_32)) bitsLt_bf16_f32

include hL hb in
theorem hotB_apply (k : Fin 1024) (r : Fin 640) :
    hotB x0 (ix2 k r) = if L r.val = k.val then ((1 : ℝ) : EReal) else ((0 : ℝ) : EReal) := by
  have h1 : iota .tc S1024x640 32 [0] iota_S1024x640_d0_w32 (ix2 k r) = BitVec.ofNat 32 k.val := iota_single_apply _ _ _ _ _ _
  have h2 : broadcastTo S1024x640 (shapeCast S1x640 x0 shapeCasts_S1x1x640_S1x640) broadcasts_S1x640_S1024x640 (ix2 k r) = BitVec.ofNat 32 (L r.val) := by
    rw [show broadcastTo S1024x640 (shapeCast S1x640 x0 shapeCasts_S1x1x640_S1x640) broadcasts_S1x640_S1024x640 (ix2 k r) = shapeCast S1x640 x0 shapeCasts_S1x1x640_S1x640 (ix2 (0 : Fin 1) r) from broadcastTo_1b_ab_apply _ _ k r]
    rw [show shapeCast S1x640 x0 shapeCasts_S1x1x640_S1x640 (ix2 (0 : Fin 1) r) = x0 (ix3 0 0 r) from shapeCast_1ab_ab_apply x0 _ 0 r]
    exact hL r
  show FloatOps.sitofp (F := Ideal) .f32 ((IntOp.cmpi .eq (iota .tc S1024x640 32 [0] iota_S1024x640_d0_w32 (ix2 k r)) (broadcastTo S1024x640 (shapeCast S1x640 x0 shapeCasts_S1x1x640_S1x640) broadcasts_S1x640_S1024x640 (ix2 k r))).setWidth 32) = _
  rw [h1, h2, hot]
  have hk := k.isLt
  have hl := hb r.val
  simp only [ofNat_eq_iff (show k.val < 2 ^ 32 by omega) (show L r.val < 2 ^ 32 by omega), eq_comm]

include hL hb hD in
/-- The one-hot product picks the deviation of the row's class. -/
theorem pick_apply (r : Fin 640) (j : Fin 256) :
    matmul (φ₂ := .bf16) dot_S1024x640_S1024x256_S640x256_0_0_1_1_n_n none (hotB x0) x2 (constant S640x256 .f32 0x00000000#32) (ix2 r j) = ((D (L r.val) j : ℝ) : EReal) := by
  refine (Ideal.matmul_constant_zero_apply _ none (hotB x0) x2 _).trans ?_
  rw [← Equiv.sum_comp (contrEquiv1 dot_S1024x640_S1024x256_S640x256_0_0_1_1_n_n 1024 rfl rfl).symm]
  have hl : L r.val < 1024 := Nat.lt_trans (hb _) (by norm_num)
  refine Eq.trans (Finset.sum_congr rfl fun k _ => ?_) (Cert.Maths.sum_pick (fun k : Fin 1024 => ((D k.val j : ℝ) : EReal)) ⟨L r.val, hl⟩)
  rw [show dot_S1024x640_S1024x256_S640x256_0_0_1_1_n_n.lhsIdx (ix2 r j) ((contrEquiv1 dot_S1024x640_S1024x256_S640x256_0_0_1_1_n_n 1024 rfl rfl).symm k) = ix2 k r from by
    funext a; match a with | ⟨0, _⟩ => rfl | ⟨1, _⟩ => rfl]
  rw [show dot_S1024x640_S1024x256_S640x256_0_0_1_1_n_n.rhsIdx (ix2 r j) ((contrEquiv1 dot_S1024x640_S1024x256_S640x256_0_0_1_1_n_n 1024 rfl rfl).symm k) = ix2 k j from by
    funext a; match a with | ⟨0, _⟩ => rfl | ⟨1, _⟩ => rfl]
  rw [hotB_apply x0 L hL hb, hD]
  by_cases h : L r.val = k.val
  · rw [if_pos h, if_pos (Fin.ext h.symm)]; rfl
  · rw [if_neg h, if_neg (fun e => h (congrArg Fin.val e).symm)]; rfl

/-- The block's noisy features. -/
abbrev featB : FVec Ideal S640x256 .f32 :=
  addf x1 (mulf (mulf (broadcast S640x256 (Named.named κ "noise_ratio" 0x3B6305FB#32))
    (matmul (φ₂ := .bf16) dot_S1024x640_S1024x256_S640x256_0_0_1_1_n_n none (hotB x0) (shapeCast S1024x256 (x2 : FVec Ideal S1024x256 .bf16) shapeCasts_S1024x256_S1024x256) (constant S640x256 .f32 0x00000000#32)))
    (subf (bitcastToFloat .f32 (ori (shrui w (broadcast S640x256 9#32)) (broadcast S640x256 1065353216#32))) (broadcast S640x256 (Scalar.ofBits .f32 0x3FC00000#32))))

include hL hb hX hD in
theorem featB_apply (r : Fin 640) (j : Fin 256) :
    featB x0 x1 x2 w (ix2 r j) = ((Cert.Noise.feat (X r.val j) (D (L r.val) j) (w (ix2 r j)) : ℝ) : EReal) := by
  have hbits : bitcastToFloat (F := Ideal) .f32 (ori (shrui w (broadcast S640x256 9#32)) (broadcast S640x256 1065353216#32)) (ix2 r j)
      = Ideal.ofBits .f32 ((w (ix2 r j) >>> 9) ||| 1065353216#32) := by
    rw [← Cert.Noise.shr]; rfl
  unfold featB
  rw [shapeCast_self, addf_apply, mulf_apply, mulf_apply, subf_apply, hbits, broadcast_apply, broadcast_apply]
  rw [pick_apply x0 x2 L D hL hb hD, hX, Cert.Noise.ofBits_or, show Scalar.ofBits (F := Ideal) .f32 0x3FC00000#32 = Ideal.ofBits .f32 0x3FC00000#32 from rfl, Cert.Noise.half,
    IdealRules.named_const.ideal_named_scalar κ "noise_ratio" (φ := .f32) 0x3B6305FB#32 _ rfl, ← EReal.coe_mul, ← EReal.coe_sub, ← EReal.coe_mul, ← EReal.coe_add]
  unfold Cert.Noise.feat Cert.Noise.unit
  congr 2
  ring

include hL hb hX hD in
/-- The block the point leaves. -/
theorem payB_apply (r : Fin 640) (j : Fin 256) :
    k1_pay1 (F := Ideal) x0 x1 x2 w (ix2 r j) = Cert.Noise.out (fun k => Cert.Noise.feat (X r.val k) (D (L r.val) k) (w (ix2 r k))) j := by
  have hbc : ∀ y : FVec Ideal S640x1 .f32, broadcastTo S640x256 y broadcasts_S640x1_S640x256 (ix2 r j) = y (ix2 r 0) := fun y =>
    broadcastTo_apply y _ _ _ (fun a => by match a with | ⟨0, _⟩ => rfl | ⟨1, _⟩ => rfl)
  show Ideal.div (featB x0 x1 x2 w (ix2 r j)) (broadcastTo S640x256 _ broadcasts_S640x1_S640x256 (ix2 r j)) = _
  rw [hbc, featB_apply x0 x1 x2 w L X D hL hb hX hD]
  unfold Cert.Noise.out
  show Ideal.div _ (max (Ideal.sqrt (shapeCast S640x1 (multiReduction .add [1] S640 (mulf (featB x0 x1 x2 w) (featB x0 x1 x2 w)) 0x00000000#32 reduces_S640x256_S640 (.inl rfl) rfl) shapeCasts_S640_S640x1 (ix2 r 0))) _) = _
  rw [show shapeCast S640x1 (multiReduction .add [1] S640 (mulf (featB x0 x1 x2 w) (featB x0 x1 x2 w)) 0x00000000#32 reduces_S640x256_S640 (.inl rfl) rfl) shapeCasts_S640_S640x1 (ix2 r 0)
      = multiReduction .add [1] S640 (mulf (featB x0 x1 x2 w) (featB x0 x1 x2 w)) 0x00000000#32 reduces_S640x256_S640 (.inl rfl) rfl (ix1 r) from shapeCast_a_a1_apply _ _ r 0]
  refine congrArg (fun z => Ideal.div _ (max (Ideal.sqrt z) _)) ((Ideal.multiReduction_add_single (a := (1 : Fin S640x256.rank)) (mulf (featB x0 x1 x2 w) (featB x0 x1 x2 w)) 0x00000000#32 reduces_S640x256_S640 (.inl rfl) rfl (ix1 r)).trans
    (Finset.sum_congr rfl fun k _ => ?_))
  have e : featB x0 x1 x2 w (reduces_S640x256_S640.lift (ix1 r) k) = ((Cert.Noise.feat (X r.val k) (D (L r.val) k) (w (ix2 r k)) : ℝ) : EReal) :=
    (congrArg (featB x0 x1 x2 w) (by funext a; match a with | ⟨0, _⟩ => rfl | ⟨1, _⟩ => rfl)).trans (featB_apply x0 x1 x2 w L X D hL hb hX hD r k)
  exact congrArg₂ (fun a b : EReal => a * b) e e

end Point

end Cert.KernelIdeal.Two

end
-- ==== Proof.KI.ValA.lean ====
/- The statistics launch as numbers: after each of its fifty points the scratch holds the sums, sums of squares and counts of the
   rows read so far, so the array it leaves holds every class's deviation. -/
module

public import proofs.«01_k».proof.Proof.KI.PayA
public import proofs.«01_k».proof.Proof.KI.Run

@[expose] public section

noncomputable section

namespace Cert.KernelIdeal.Two

open Cert.Noise (part dev devs res)
open Idealize.ShloMosaic Idealize.ShloMosaic.TcCoe Idealize.ShloMosaic.ValueIdx Cert.KernelIdeal Cert.KernelIdeal.Gen

theorem idx0_0 : ∀ t : Fin grid0.N, win0_0.index t 0 = t.val ∧ win0_0.index t 1 = 0 ∧ win0_0.index t 2 = 0 := by decide +kernel
theorem idx0_1 : ∀ t : Fin grid0.N, win0_1.index t 0 = t.val ∧ win0_1.index t 1 = 0 := by decide +kernel
theorem idx0_2 : ∀ t : Fin grid0.N, win0_2.index t 0 = 0 ∧ win0_2.index t 1 = 0 := by decide +kernel

theorem part_block (L : ℕ → ℕ) (Y : ℕ → ℝ) (t k : ℕ) :
    part L Y (3200 * (t + 1)) k = part L Y (3200 * t) k + ∑ r : Fin 3200, if L (3200 * t + r.val) = k then Y (3200 * t + r.val) else 0 :=
  Cert.Maths.sum_block (fun r => if L r = k then Y r else 0) 3200 t

section

variable (V : (c : Dev nD) → (b : Ref sig .tc) → Buf (Elt Ideal) ((c : Thread nD τ).loc b)) (c : Dev nD)

/-- A point's label block is its row of the labels. -/
theorem blk0_0 (t : Fin cfg0.N) (r : Fin 3200) :
    (iblk0 (F := Ideal) V c 0 t : Vec Ideal S1x1x3200 .i32) (ix3 0 0 r) = (V c main_v0 : Vec Ideal S50x1x3200 .i32) (ix3 ⟨t.val, lt_of_lt_of_eq t.isLt N_0⟩ 0 r) := by
  have h := idx0_0 t
  unfold iblk0
  rw [View.read_apply]
  show V c main_v0 _ = V c main_v0 _
  congr 1
  funext a
  apply Fin.ext
  match a with
  | ⟨0, _⟩ => show win0_0.index t 0 * 1 + 1 * 0 = t.val; rw [h.1]; omega
  | ⟨1, _⟩ => show win0_0.index t 1 * 1 + 1 * 0 = 0; rw [h.2.1]
  | ⟨2, _⟩ => show win0_0.index t 2 * 3200 + 1 * r.val = r.val; rw [h.2.2]; omega

/-- A point's feature block is its 3200 rows of the features. -/
theorem blk0_1 (t : Fin cfg0.N) (r : Fin 3200) (j : Fin 256) :
    (iblk0 (F := Ideal) V c 1 t : Vec Ideal S3200x256 .f32) (ix2 r j) = (V c main_arg0 : Vec Ideal S160000x256 .f32) (ix2 ⟨3200 * t.val + r.val, by have := lt_of_lt_of_eq t.isLt N_0; have := r.isLt; omega⟩ j) := by
  have h := idx0_1 t
  unfold iblk0
  rw [View.read_apply]
  show V c main_arg0 _ = V c main_arg0 _
  congr 1
  funext a
  apply Fin.ext
  match a with
  | ⟨0, _⟩ => show win0_1.index t 0 * 3200 + 1 * r.val = 3200 * t.val + r.val; rw [h.1]; omega
  | ⟨1, _⟩ => show win0_1.index t 1 * 256 + 1 * j.val = j.val; rw [h.2]; omega

variable (L : ℕ → ℕ) (X : ℕ → Fin 256 → ℝ)

/-- What the scratch holds after the first `n` rows. -/
def Sofar (n : ℕ) (o : Vec Ideal S1024x256 .bf16 × Vec Ideal S1024x256 .f32 × Vec Ideal S1024x256 .f32 × Vec Ideal S1024x128 .f32) : Prop :=
  (∀ k j, o.2.1 (ix2 k j) = ((part L (fun r => X r j) n k.val : ℝ) : EReal))
  ∧ (∀ k j, o.2.2.1 (ix2 k j) = ((part L (fun r => X r j ^ 2) n k.val : ℝ) : EReal))
  ∧ (∀ k j, o.2.2.2 (ix2 k j) = ((part L (fun _ => 1) n k.val : ℝ) : EReal))

/-- The first column of the counts. -/
theorem ld_col (P : Vec Ideal S1024x128 .f32) (k : Fin 1024) :
    View.ld (Val := Elt Ideal) (e' := .f32) P (Rect.unit (s := S1024x128) ![0, 0] S1024x1.size inb_S1024x128_S1024x1_0_0) (ix2 k 0) = P (ix2 k 0) := by
  show P _ = P _
  congr 1
  funext a
  apply Fin.ext
  match a with
  | ⟨0, _⟩ => show 0 + 1 * k.val = k.val; omega
  | ⟨1, _⟩ => rfl

/-- The deviations taken from the scratch. -/
theorem dev_sofar (z : Vec Ideal S1024x256 .bf16) (a b : Vec Ideal S1024x256 .f32) (d : Vec Ideal S1024x128 .f32) (n : ℕ)
    (h : Sofar L X n (z, a, b, d)) (k : Fin 1024) (j : Fin 256) :
    k0_pay2 (F := Ideal) (View.ld (Val := Elt Ideal) (e' := .f32) d (Rect.unit (s := S1024x128) ![0, 0] S1024x1.size inb_S1024x128_S1024x1_0_0)) a b (ix2 k j)
      = ((dev (part L (fun r => X r j) n k.val) (part L (fun r => X r j ^ 2) n k.val) (part L (fun _ => 1) n k.val) : ℝ) : EReal) :=
  pay2_apply _ _ _ k j _ _ _ ((ld_col d k).trans (h.2.2 k 0)) (h.1 k j) (h.2.1 k j)

variable (hb : ∀ n, L n < 1000)
  (hL : ∀ (t : Fin 50) (r : Fin 3200), (V c main_v0 : Vec Ideal S50x1x3200 .i32) (ix3 t 0 r) = BitVec.ofNat 32 (L (3200 * t.val + r.val)))
  (hX : ∀ (n : Fin 160000) (j : Fin 256), (V c main_arg0 : Vec Ideal S160000x256 .f32) (ix2 n j) = ((X n.val j : ℝ) : EReal))
include hb hL hX

theorem step0 (t : Fin cfg0.N) (a0 a1 : Vec Ideal S1024x256 .f32) (a2 : Vec Ideal S1024x128 .f32)
    (h0 : ∀ k j, a0 (ix2 k j) = ((part L (fun r => X r j) (3200 * t.val) k.val : ℝ) : EReal))
    (h1 : ∀ k j, a1 (ix2 k j) = ((part L (fun r => X r j ^ 2) (3200 * t.val) k.val : ℝ) : EReal))
    (h2 : ∀ k j, a2 (ix2 k j) = ((part L (fun _ => 1) (3200 * t.val) k.val : ℝ) : EReal)) (z : Vec Ideal S1024x256 .bf16) :
    Sofar L X (3200 * (t.val + 1)) (z, k0_pay7 (iblk0 V c 0 t) (iblk0 V c 1 t) a0, k0_pay8 (iblk0 V c 0 t) (iblk0 V c 1 t) a1, k0_pay1 (k0_pay9 (iblk0 V c 0 t) a2)) := by
  have hl : ∀ r : Fin 3200, (iblk0 (F := Ideal) V c 0 t : Vec Ideal S1x1x3200 .i32) (ix3 0 0 r) = BitVec.ofNat 32 (L (3200 * t.val + r.val)) :=
    fun r => (blk0_0 V c t r).trans (hL _ r)
  have hx : ∀ (r : Fin 3200) (j : Fin 256), (iblk0 (F := Ideal) V c 1 t : Vec Ideal S3200x256 .f32) (ix2 r j) = ((X (3200 * t.val + r.val) j : ℝ) : EReal) :=
    fun r j => (blk0_1 V c t r j).trans (hX _ j)
  refine ⟨fun k j => ?_, fun k j => ?_, fun k j => ?_⟩
  · rw [part_block]
    exact pay7_apply _ _ (fun r => L (3200 * t.val + r)) (fun r j => X (3200 * t.val + r) j) hl (fun _ => hb _) hx a0 k j _ (h0 k j)
  · rw [part_block]
    exact pay8_apply _ _ (fun r => L (3200 * t.val + r)) (fun r j => X (3200 * t.val + r) j) hl (fun _ => hb _) hx a1 k j _ (h1 k j)
  · rw [part_block]
    exact pay9_apply _ (fun r => L (3200 * t.val + r)) hl (fun _ => hb _) a2 k j _ (h2 k j)

/-- After point `n` the scratch holds the sums over the first `n + 1` blocks. -/
theorem sofar : ∀ (n : ℕ) (h : n < cfg0.N), Sofar L X (3200 * (n + 1)) (outsAt0 (F := Ideal) V c n h)
  | 0, h => by
    rw [outsAt0_A V c ⟨0, h⟩ rfl (by dsimp only; omega), sval_A_0, sval_A_1, sval_A_2]
    exact step0 V c L X hb hL hX ⟨0, h⟩ _ _ _ (fun k j => by rw [pay3_apply]; simp [part]) (fun k j => by rw [pay4_apply]; simp [part]) (fun k j => by rw [pay5_apply]; simp [part]) _
  | n + 1, h => by
    have ih := sofar n (Nat.lt_of_succ_lt h)
    have hN : cfg0.N = 50 := N_0
    have h0 : ¬(⟨n + 1, h⟩ : Fin cfg0.N).val % 50 = 0 := by dsimp only; omega
    by_cases h1 : (⟨n + 1, h⟩ : Fin cfg0.N).val % 50 = 49
    · rw [outsAt0_C V c ⟨n + 1, h⟩ h0 h1, sval_C_0, sval_C_1, sval_C_2]
      exact step0 V c L X hb hL hX ⟨n + 1, h⟩ _ _ _ ih.1 ih.2.1 ih.2.2 _
    · rw [outsAt0_B V c ⟨n + 1, h⟩ h0 h1, sval_B_0, sval_B_1, sval_B_2]
      exact step0 V c L X hb hL hX ⟨n + 1, h⟩ _ _ _ ih.1 ih.2.1 ih.2.2 _

/-- The last point's block: every class's deviation over all the rows. -/
theorem last0 (n : ℕ) (h : n + 1 < cfg0.N) (hn : n + 1 = 49) (k : Fin 1024) (j : Fin 256) :
    (outsAt0 (F := Ideal) V c (n + 1) h).1 (ix2 k j)
      = ((dev (part L (fun r => X r j) 160000 k.val) (part L (fun r => X r j ^ 2) 160000 k.val) (part L (fun _ => 1) 160000 k.val) : ℝ) : EReal) := by
  have ih := sofar V c L X hb hL hX n (Nat.lt_of_succ_lt h)
  have h0 : ¬(⟨n + 1, h⟩ : Fin cfg0.N).val % 50 = 0 := by dsimp only; omega
  have h1 : (⟨n + 1, h⟩ : Fin cfg0.N).val % 50 = 49 := by dsimp only; omega
  have hs := step0 V c L X hb hL hX ⟨n + 1, h⟩ _ _ _ ih.1 ih.2.1 ih.2.2 (fun _ => 0)
  have e : 3200 * ((⟨n + 1, h⟩ : Fin cfg0.N).val + 1) = 160000 := by dsimp only; omega
  rw [e] at hs
  rw [outsAt0_C V c ⟨n + 1, h⟩ h0 h1]
  dsimp only
  rw [oval_C]
  exact dev_sofar L X _ _ _ _ _ hs k j

/-- The deviations the launch leaves, at class `k`, column `j`. -/
theorem final0' (n : ℕ) (hlt : n + 1 < cfg0.N) (hn : n + 1 = 49) (k : Fin 1024) (j : Fin 256) :
    ((dat0 (F := Ideal) V c).arrAt 2 cfg0.N : Vec Ideal S1024x256 .bf16) (ix2 k j)
      = ((dev (part L (fun r => X r j) 160000 k.val) (part L (fun r => X r j ^ 2) 160000 k.val) (part L (fun _ => 1) 160000 k.val) : ℝ) : EReal) := by
  have hN : cfg0.N = 50 := N_0
  have hz' : ∀ t : Fin cfg0.N, (fun a => win0_2.index t a * main_v2.ty.shape.size a) = fun _ => 0 := fun t => funext fun a => by
    have h := idx0_2 t
    match a with
    | ⟨0, _⟩ => show win0_2.index t 0 * _ = 0; rw [h.1, Nat.zero_mul]
    | ⟨1, _⟩ => show win0_2.index t 1 * _ = 0; rw [h.2, Nat.zero_mul]
  have e : (dat0 (F := Ideal) V c).arrAt 2 cfg0.N = (outsAt0 (F := Ideal) V c (n + 1) hlt).1 :=
    (dat0 (F := Ideal) V c).arrAt_eq_of_cover 2 (outsAt0 (F := Ideal) V c (n + 1) hlt).1
      (fun t hf => by
        have ht : t.val = n + 1 := by have := (flush0_2 t).mp hf; have := t.isLt; omega
        obtain rfl : t = ⟨n + 1, hlt⟩ := Fin.ext ht
        show (cfg0.win 2).cut (grid0.coords ⟨n + 1, hlt⟩) ((dat0 (F := Ideal) V c).after 2 ⟨n + 1, hlt⟩) = _
        rw [after0_2]
        exact (Memref.read_access_unit_zero (Elt Ideal) main_v2 (hz' ⟨n + 1, hlt⟩) (fun a => by rw [congrFun (hz' ⟨n + 1, hlt⟩) a]; simp) _).symm)
      fun i => ⟨⟨n + 1, hlt⟩, (flush0_2 ⟨n + 1, hlt⟩).mpr (by dsimp only; omega), by
        show i ∈ ((View.whole main_v2).slice (win0_2.rect ⟨n + 1, hlt⟩)).set
        rw [View.set_slice_whole, Rect.mem_set_unit]
        intro a
        have h := idx0_2 ⟨n + 1, hlt⟩
        have h0 : (i 0 : Nat) < 1024 := (i 0).isLt
        have h1 : (i 1 : Nat) < 256 := (i 1).isLt
        match a with
        | ⟨0, _⟩ => show win0_2.index ⟨n + 1, hlt⟩ 0 * win0_2.size 0 ≤ (i 0 : Nat) ∧ (i 0 : Nat) < win0_2.index ⟨n + 1, hlt⟩ 0 * win0_2.size 0 + win0_2.xsize (grid0.coords ⟨n + 1, hlt⟩) 0
                    rw [h.1, show win0_2.xsize (grid0.coords ⟨n + 1, hlt⟩) 0 = 1024 from rfl]; omega
        | ⟨1, _⟩ => show win0_2.index ⟨n + 1, hlt⟩ 1 * win0_2.size 1 ≤ (i 1 : Nat) ∧ (i 1 : Nat) < win0_2.index ⟨n + 1, hlt⟩ 1 * win0_2.size 1 + win0_2.xsize (grid0.coords ⟨n + 1, hlt⟩) 1
                    rw [h.2, show win0_2.xsize (grid0.coords ⟨n + 1, hlt⟩) 1 = 256 from rfl]; omega⟩
  rw [e]
  exact last0 V c L X hb hL hX n hlt hn k j

theorem final0 (k : Fin 1024) (j : Fin 256) :
    ((dat0 (F := Ideal) V c).arrAt 2 cfg0.N : Vec Ideal S1024x256 .bf16) (ix2 k j)
      = ((dev (part L (fun r => X r j) 160000 k.val) (part L (fun r => X r j ^ 2) 160000 k.val) (part L (fun _ => 1) 160000 k.val) : ℝ) : EReal) :=
  final0' V c L X hb hL hX 48 (by rw [show cfg0.N = 50 from N_0]; omega) rfl k j

end

end Cert.KernelIdeal.Two

end
-- ==== Proof.KI.ValB.lean ====
/- The noise launch as numbers, and the whole kernel's result: every row with its noise, over its length. -/
module

public import proofs.«01_k».proof.Proof.KI.PayB
public import proofs.«01_k».proof.Proof.KI.ValA

@[expose] public section

noncomputable section

namespace Cert.KernelIdeal.Two

open Cert.Noise (part dev devs res)
open Idealize.ShloMosaic Idealize.ShloMosaic.TcCoe Idealize.ShloMosaic.ValueIdx Cert.KernelIdeal Cert.KernelIdeal.Gen Idealize.SL.Sem

theorem idx1_0 : ∀ t : Fin grid1.N, win1_0.index t 0 = t.val ∧ win1_0.index t 1 = 0 ∧ win1_0.index t 2 = 0 := by decide +kernel
theorem idx1_1 : ∀ t : Fin grid1.N, win1_1.index t 0 = t.val ∧ win1_1.index t 1 = 0 := by decide +kernel
theorem idx1_2 : ∀ t : Fin grid1.N, win1_2.index t 0 = 0 ∧ win1_2.index t 1 = 0 := by decide +kernel
theorem idx1_3 : ∀ t : Fin grid1.N, win1_3.index t 0 = t.val ∧ win1_3.index t 1 = 0 := by decide +kernel
theorem crd1 : ∀ t : Fin grid1.N, (grid1.coords t 0).val = t.val := by decide +kernel

section

variable (V : (c : Dev nD) → (b : Ref sig .tc) → Buf (Elt Ideal) ((c : Thread nD τ).loc b)) (c : Dev nD)

theorem blk1_0 (t : Fin cfg1.N) (r : Fin 640) :
    (iblk1 (F := Ideal) V c 0 t : Vec Ideal S1x1x640 .i32) (ix3 0 0 r) = (V c main_v1 : Vec Ideal S250x1x640 .i32) (ix3 ⟨t.val, lt_of_lt_of_eq t.isLt N_1⟩ 0 r) := by
  have h := idx1_0 t
  unfold iblk1
  rw [View.read_apply]
  show V c main_v1 _ = V c main_v1 _
  congr 1
  funext a
  apply Fin.ext
  match a with
  | ⟨0, _⟩ => show win1_0.index t 0 * 1 + 1 * 0 = t.val; rw [h.1]; omega
  | ⟨1, _⟩ => show win1_0.index t 1 * 1 + 1 * 0 = 0; rw [h.2.1]
  | ⟨2, _⟩ => show win1_0.index t 2 * 640 + 1 * r.val = r.val; rw [h.2.2]; omega

theorem blk1_1 (t : Fin cfg1.N) (r : Fin 640) (j : Fin 256) :
    (iblk1 (F := Ideal) V c 1 t : Vec Ideal S640x256 .f32) (ix2 r j) = (V c main_arg0 : Vec Ideal S160000x256 .f32) (ix2 ⟨640 * t.val + r.val, by have := lt_of_lt_of_eq t.isLt N_1; have := r.isLt; omega⟩ j) := by
  have h := idx1_1 t
  unfold iblk1
  rw [View.read_apply]
  show V c main_arg0 _ = V c main_arg0 _
  congr 1
  funext a
  apply Fin.ext
  match a with
  | ⟨0, _⟩ => show win1_1.index t 0 * 640 + 1 * r.val = 640 * t.val + r.val; rw [h.1]; omega
  | ⟨1, _⟩ => show win1_1.index t 1 * 256 + 1 * j.val = j.val; rw [h.2]; omega

theorem blk1_2 (t : Fin cfg1.N) (k : Fin 1024) (j : Fin 256) :
    (iblk1 (F := Ideal) V c 2 t : Vec Ideal S1024x256 .bf16) (ix2 k j) = (V c main_v2 : Vec Ideal S1024x256 .bf16) (ix2 k j) := by
  have h := idx1_2 t
  unfold iblk1
  rw [View.read_apply]
  show V c main_v2 _ = V c main_v2 _
  congr 1
  funext a
  apply Fin.ext
  match a with
  | ⟨0, _⟩ => show win1_2.index t 0 * 1024 + 1 * k.val = k.val; rw [h.1]; omega
  | ⟨1, _⟩ => show win1_2.index t 1 * 256 + 1 * j.val = j.val; rw [h.2]; omega

variable (L : ℕ → ℕ) (X : ℕ → Fin 256 → ℝ)

/-- The result array. -/
def resArr : Vec Ideal S160000x256 .f32 := fun i => res L X (i 0) (i 1)

variable (hb : ∀ n, L n < 1000)
  (hL : ∀ (t : Fin 250) (r : Fin 640), (V c main_v1 : Vec Ideal S250x1x640 .i32) (ix3 t 0 r) = BitVec.ofNat 32 (L (640 * t.val + r.val)))
  (hX : ∀ (n : Fin 160000) (j : Fin 256), (V c main_arg0 : Vec Ideal S160000x256 .f32) (ix2 n j) = ((X n.val j : ℝ) : EReal))
  (hD : ∀ (k : Fin 1024) (j : Fin 256), (V c main_v2 : Vec Ideal S1024x256 .bf16) (ix2 k j) = ((devs L X k.val j : ℝ) : EReal))
include hb hL hX hD

/-- Point `t`'s block, at row `r`, is the result at row `640 t + r`. -/
theorem outs1 (t : Fin cfg1.N) (r : Fin 640) (j : Fin 256) (h : 640 * t.val + r.val < 160000) :
    outsAt1 (F := Ideal) V c t (ix2 r j) = res L X ⟨640 * t.val + r.val, h⟩ j := by
  unfold outsAt1
  rw [oval1, payB_apply (iblk1 V c 0 t) (iblk1 V c 1 t) (iblk1 V c 2 t) _ (fun r => L (640 * t.val + r)) (fun r j => X (640 * t.val + r) j) (devs L X)
    (fun r => (blk1_0 V c t r).trans (hL _ r)) (fun _ => hb _) (fun r j => (blk1_1 V c t r j).trans (hX _ j)) (fun k j => (blk1_2 V c t k j).trans (hD k j)) r j,
    crd1]
  unfold res
  have hr := r.isLt
  have e1 : (640 * t.val + r.val) / 640 = t.val := by omega
  have e2 : (⟨(640 * t.val + r.val) % 640, Nat.mod_lt _ (by norm_num)⟩ : Fin 640) = r := Fin.ext (by show (640 * t.val + r.val) % 640 = r.val; omega)
  dsimp only
  rw [e1, e2]

/-- The result array after the launch. -/
theorem final1 : (dat1 (F := Ideal) V c).arrAt 3 cfg1.N = resArr L X := by
  have hN : cfg1.N = 250 := N_1
  refine (dat1 (F := Ideal) V c).arrAt_eq_of_cover 3 (resArr L X) (fun t _ => ?_) fun i => ?_
  · have ht : t.val < 250 := lt_of_lt_of_eq t.isLt N_1
    have h := idx1_3 t
    show (cfg1.win 3).cut (grid1.coords t) ((dat1 (F := Ideal) V c).after 3 t) = _
    rw [after1_3]
    funext y
    rw [View.read_apply]
    have hy0 : (y 0 : Nat) < 640 := (y 0).isLt
    have hy1 : (y 1 : Nat) < 256 := (y 1).isLt
    refine (show _ = outsAt1 (F := Ideal) V c t (ix2 (⟨(y 0).val, hy0⟩ : Fin 640) (⟨(y 1).val, hy1⟩ : Fin 256)) from ?_).trans
      ((outs1 V c L X hb hL hX hD t _ _ (by show 640 * t.val + (y 0).val < 160000; omega)).trans ?_)
    · show outsAt1 (F := Ideal) V c t _ = _
      congr 1
      funext a
      match a with
      | ⟨0, _⟩ => rfl
      | ⟨1, _⟩ => rfl
    · show res L X _ _ = res L X _ _
      congr 1
      · apply Fin.ext
        show 640 * t.val + (y 0).val = win1_3.index t 0 * 640 + 1 * (y 0).val
        rw [h.1]; omega
      · apply Fin.ext
        show (y 1).val = win1_3.index t 1 * 256 + 1 * (y 1).val
        rw [h.2]; omega
  · have h0 : (i 0 : Nat) < 160000 := (i 0).isLt
    have h1 : (i 1 : Nat) < 256 := (i 1).isLt
    obtain ⟨t, ht⟩ : ∃ t : Fin cfg1.N, t.val = (i 0 : Nat) / 640 := ⟨⟨(i 0 : Nat) / 640, by omega⟩, rfl⟩
    refine ⟨t, flush1_3 t, ?_⟩
    have h := idx1_3 t
    show i ∈ ((View.whole main_v3).slice (win1_3.rect t)).set
    rw [View.set_slice_whole, Rect.mem_set_unit]
    intro a
    match a with
    | ⟨0, _⟩ => show win1_3.index t 0 * win1_3.size 0 ≤ (i 0 : Nat) ∧ (i 0 : Nat) < win1_3.index t 0 * win1_3.size 0 + win1_3.xsize (grid1.coords t) 0
                rw [h.1, show win1_3.xsize (grid1.coords t) 0 = 640 from rfl, show win1_3.size 0 = 640 from rfl]; omega
    | ⟨1, _⟩ => show win1_3.index t 1 * win1_3.size 1 ≤ (i 1 : Nat) ∧ (i 1 : Nat) < win1_3.index t 1 * win1_3.size 1 + win1_3.xsize (grid1.coords t) 1
                rw [h.2, show win1_3.xsize (grid1.coords t) 1 = 256 from rfl]; omega

end

/-! ## The whole kernel -/

section

variable (m : (ℓ : Loc nD τ sig) → Buf (Elt Ideal) ℓ) (ρ : Dev nD → PrngReg)

theorem V1_v0 (c : Dev nD) : V1 m ρ c main_v0 = shapeCast S50x1x3200 (m ((c : Thread nD τ).loc main_arg1)) shapeCasts_S160000_S50x1x3200 := by
  show StableHlo.after hostOps0 _ (Proc.devRef .tc main_v0) = _
  rw [StableHlo.after_cons, StableHlo.after_cons, StableHlo.after_nil]
  rfl

theorem V1_v1 (c : Dev nD) : V1 m ρ c main_v1 = shapeCast S250x1x640 (m ((c : Thread nD τ).loc main_arg1)) shapeCasts_S160000_S250x1x640 := by
  show StableHlo.after hostOps0 _ (Proc.devRef .tc main_v1) = _
  rw [StableHlo.after_cons, StableHlo.after_cons, StableHlo.after_nil]
  rfl

variable (L : ℕ → ℕ) (X : ℕ → Fin 256 → ℝ) (hb : ∀ n, L n < 1000) (c : Dev nD)
  (hL : ∀ n : Fin 160000, (m ((c : Thread nD τ).loc main_arg1) : Vec Ideal S160000 .i32) (ix1 n) = BitVec.ofNat 32 (L n.val))
  (hX : ∀ (n : Fin 160000) (j : Fin 256), (m ((c : Thread nD τ).loc main_arg0) : Vec Ideal S160000x256 .f32) (ix2 n j) = ((X n.val j : ℝ) : EReal))
include hb hL hX

/-- The kernel's result. -/
theorem value : W3 m ρ c (Proc.devRef .tc main_v3) = resArr L X := by
  refine (W3_arr m ρ c 3).trans (final1 (V2 m ρ) c L X hb (fun t r => ?_) (fun n j => ?_) (fun k j => ?_))
  · show W2 m ρ c (Proc.devRef .tc main_v1) _ = _
    rw [W2_of m ρ c main_v1 (by decide +kernel)]
    show V1 m ρ c main_v1 _ = _
    rw [V1_v1]
    refine (shapeCast_apply _ _ _ (ix1 (⟨640 * t.val + r.val, by have := t.isLt; have := r.isLt; omega⟩ : Fin 160000)) ?_).trans (hL _)
    rw [Shape.rowMajor_val_one, Shape.rowMajor_val_three]
    show 640 * t.val + r.val = (t.val * 1 + 0) * 640 + r.val
    omega
  · show W2 m ρ c (Proc.devRef .tc main_arg0) _ = _
    rw [W2_args m ρ c main_arg0 (by decide)]
    exact hX n j
  · show W2 m ρ c (Proc.devRef .tc main_v2) _ = _
    rw [show W2 m ρ c (Proc.devRef .tc main_v2) = _ from W2_arr m ρ c 2]
    refine final0 (V1 m ρ) c L X hb (fun t r => ?_) (fun n j => ?_) k j
    · rw [V1_v0]
      refine (shapeCast_apply _ _ _ (ix1 (⟨3200 * t.val + r.val, by have := t.isLt; have := r.isLt; omega⟩ : Fin 160000)) ?_).trans (hL _)
      rw [Shape.rowMajor_val_one, Shape.rowMajor_val_three]
      show 3200 * t.val + r.val = (t.val * 1 + 0) * 3200 + r.val
      omega
    · show W1 m ρ c (Proc.devRef .tc main_arg0) _ = _
      rw [W1_args m ρ c main_arg0 (by decide)]
      exact hX n j

end

end Cert.KernelIdeal.Two

end
-- ==== Proof.RI.Words.lean ====
/- The words the reference draws: row `n` of the array is row `n % 640` of block `n / 640`. -/
module

public import proofs.«01_k».proof.Proof.Gen.ReferenceIdeal.Run
public import proofs.«01_k».proof.Proof.Words
public import Idealize.ShloMosaic.Lib.ValueIdx
public import Idealize.ShloMosaic.Lib.Pipeline.Value
public import Idealize.ShloMosaic.Lib.Tactic

@[expose] public section

noncomputable section

namespace Cert.ReferenceIdeal.Two

open Idealize.ShloMosaic Idealize.ShloMosaic.TcCoe Idealize.ShloMosaic.ValueIdx Cert.ReferenceIdeal Cert.ReferenceIdeal.Gen Idealize.ShloMosaic.Tactic

theorem hz2 : (![0, 0] : Fin 2 → ℕ) = fun _ => 0 := by funext a; match a with | ⟨0, _⟩ => rfl | ⟨1, _⟩ => rfl

theorem idx0_1 : ∀ t : Fin grid0.N, win0_1.index t 0 = t.val ∧ win0_1.index t 1 = 0 := by decide +kernel
theorem crd0 : ∀ t : Fin grid0.N, (grid0.coords t 0).val = t.val := by decide +kernel

variable {F : FTy → Type} [FloatOps F] (m : (ℓ : Loc nD τ sig) → Buf (Elt F) ℓ)

set_option maxHeartbeats 1600000 in
/-- A point leaves its block's words. -/
theorem outs (c : Dev nD) (t : Fin cfg0.N) : outsAt0 m c t = Cert.Words.block t.val := by
  unfold outsAt0 out0_A_1
  rw [View.read_writes_eq_canon _ _ _ (fun y => cover0_A_1 c (grid0.coords t) (ms0_0 t) (hs0_0 t) (ms0_1 t) (hs0_1 t) (iblk m c 0 t) default y)]
  unfold kernelRun0_A
  dsimp only
  sl_unfold_words
  rw [View.canon_unit_zero (S := S640x256) hz2, ← crd0 t]
  rfl

/-- The words array. -/
def wordsArr : IVec S160000x256 32 := fun i => Cert.Words.block ((i 0 : Nat) / 640) (ix2 (⟨(i 0 : Nat) % 640, Nat.mod_lt _ (by norm_num)⟩ : Fin 640) (i 1))

theorem words (c : Dev nD) : Cert.ReferenceIdeal.Value.reg_main_v0 m c = wordsArr := by
  unfold Cert.ReferenceIdeal.Value.reg_main_v0
  have hN : cfg0.N = 250 := N_0
  refine (dats m 0 c).arrAt_eq_of_cover 1 wordsArr (fun t _ => ?_) fun i => ?_
  · have ht : t.val < 250 := lt_of_lt_of_eq t.isLt N_0
    have h := idx0_1 t
    show (cfg0.win 1).cut (grid0.coords t) ((dats m 0 c).after 1 t) = _
    rw [after0_1, outs]
    funext y
    rw [View.read_apply]
    have hy0 : (y 0 : Nat) < 640 := (y 0).isLt
    have hy1 : (y 1 : Nat) < 256 := (y 1).isLt
    have e0 : win0_1.index t 0 * 640 + 1 * (y 0).val = 640 * t.val + (y 0).val := by rw [h.1]; omega
    have e1 : win0_1.index t 1 * 256 + 1 * (y 1).val = (y 1).val := by rw [h.2]; omega
    show Cert.Words.block t.val _ = Cert.Words.block ((win0_1.index t 0 * 640 + 1 * (y 0).val) / 640) (ix2 (⟨(win0_1.index t 0 * 640 + 1 * (y 0).val) % 640, _⟩ : Fin 640) _)
    have e2 : (win0_1.index t 0 * 640 + 1 * (y 0).val) / 640 = t.val := by omega
    rw [e2]
    congr 1
    funext a
    apply Fin.ext
    match a with
    | ⟨0, _⟩ => show (y 0).val = (win0_1.index t 0 * 640 + 1 * (y 0).val) % 640; omega
    | ⟨1, _⟩ => show (y 1).val = win0_1.index t 1 * 256 + 1 * (y 1).val; omega
  · have h0 : (i 0 : Nat) < 160000 := (i 0).isLt
    have h1 : (i 1 : Nat) < 256 := (i 1).isLt
    obtain ⟨t, ht⟩ : ∃ t : Fin cfg0.N, t.val = (i 0 : Nat) / 640 := ⟨⟨(i 0 : Nat) / 640, by omega⟩, rfl⟩
    refine ⟨t, flush0_1 t, ?_⟩
    have h := idx0_1 t
    show i ∈ ((View.whole main_v0).slice (win0_1.rect t)).set
    rw [View.set_slice_whole, Rect.mem_set_unit]
    intro a
    match a with
    | ⟨0, _⟩ => show win0_1.index t 0 * win0_1.size 0 ≤ (i 0 : Nat) ∧ (i 0 : Nat) < win0_1.index t 0 * win0_1.size 0 + win0_1.xsize (grid0.coords t) 0
                rw [h.1, show win0_1.xsize (grid0.coords t) 0 = 640 from rfl, show win0_1.size 0 = 640 from rfl]; omega
    | ⟨1, _⟩ => show win0_1.index t 1 * win0_1.size 1 ≤ (i 1 : Nat) ∧ (i 1 : Nat) < win0_1.index t 1 * win0_1.size 1 + win0_1.xsize (grid0.coords t) 1
                rw [h.2, show win0_1.xsize (grid0.coords t) 1 = 256 from rfl]; omega

end Cert.ReferenceIdeal.Two

end
-- ==== Proof.Scat.lean ====
/- Where a scattered update lands when each row of updates carries one label: on the class its label names. -/
module

public import Idealize.ShloMosaic.Lib.Routing.Ops
public import Idealize.ShloMosaic.Lib.ValueIdx
public import Idealize.ShloMosaic.Lib.ValueIdxRank1
public import proofs.«01_k».proof.Proof.Maths

@[expose] public section

noncomputable section

namespace Cert.Scat

open Idealize.ShloMosaic Idealize.ShloMosaic.ValueIdx

variable {N n B : ℕ}

/-- One number a row, added at the row's label. -/
theorem lands1 (d : ScatterDims (⟨1, ![N]⟩ : Shape) (⟨2, ![n, 1]⟩ : Shape) (⟨1, ![n]⟩ : Shape)) (hu : d.updateWindowDims = []) (hi : d.insertedWindowDims = [0])
    (hs : d.scatterDimsToOperandDims = [0]) (hv : d.indexVectorDim = 1) (idx : IVec (⟨2, ![n, 1]⟩ : Shape) 32) (i : Fin n) (x : Fin N) :
    d.resultIdx? (ix1 i) idx = some (ix1 x) ↔ (idx (ix2 i (0 : Fin 1))).toInt = (x.val : ℤ) := by
  obtain ⟨uw, iw, sd, iv, wf⟩ := d
  dsimp only at hu hi hs hv
  subst hu hi hs hv
  have hw : ScatterDims.window ⟨[], [0], [0], 1, wf⟩ (ix1 i) 0 = 0 := rfl
  have hst : ScatterDims.start ⟨[], [0], [0], 1, wf⟩ (ix1 i) idx 0 = (idx (ix2 i (0 : Fin 1))).toInt := by
    show (idx _).toInt = _
    congr 2
    funext b
    match b with
    | ⟨0, _⟩ => rfl
    | ⟨1, _⟩ => rfl
  have hx := x.isLt
  unfold ScatterDims.resultIdx?
  constructor
  · intro e
    split at e
    · next h =>
      have h0 := (h 0).1
      have e0 := congrArg Fin.val (congrFun (Option.some.inj e) 0)
      change (ScatterDims.start _ (ix1 i) idx 0 + (ScatterDims.window _ (ix1 i) 0 : ℤ)).toNat = x.val at e0
      rw [hst, hw] at e0 h0
      omega
    · cases e
  · intro e
    rw [dif_pos]
    · refine congrArg some (funext fun a => Fin.ext ?_)
      match a with
      | ⟨0, _⟩ =>
        show (ScatterDims.start _ (ix1 i) idx 0 + (ScatterDims.window _ (ix1 i) 0 : ℤ)).toNat = x.val
        rw [hst, hw]; omega
    · intro a
      match a with
      | ⟨0, _⟩ =>
        show 0 ≤ ScatterDims.start _ (ix1 i) idx 0 + (ScatterDims.window _ (ix1 i) 0 : ℤ) ∧ ScatterDims.start _ (ix1 i) idx 0 + (ScatterDims.window _ (ix1 i) 0 : ℤ) < (N : ℤ)
        rw [hst, hw]; omega

/-- A row of numbers, added to the row its label names. -/
theorem lands2 (d : ScatterDims (⟨2, ![N, B]⟩ : Shape) (⟨2, ![n, 1]⟩ : Shape) (⟨2, ![n, B]⟩ : Shape)) (hu : d.updateWindowDims = [1]) (hi : d.insertedWindowDims = [0])
    (hs : d.scatterDimsToOperandDims = [0]) (hv : d.indexVectorDim = 1) (idx : IVec (⟨2, ![n, 1]⟩ : Shape) 32) (i : Fin n) (y : Fin B) (x : Fin N) (z : Fin B) :
    d.resultIdx? (ix2 i y) idx = some (ix2 x z) ↔ (idx (ix2 i (0 : Fin 1))).toInt = (x.val : ℤ) ∧ y = z := by
  obtain ⟨uw, iw, sd, iv, wf⟩ := d
  dsimp only at hu hi hs hv
  subst hu hi hs hv
  have hw : ScatterDims.window ⟨[1], [0], [0], 1, wf⟩ (ix2 i y) 0 = 0 := rfl
  have hw1 : ScatterDims.window ⟨[1], [0], [0], 1, wf⟩ (ix2 i y) 1 = y.val := rfl
  have hst1 : ScatterDims.start ⟨[1], [0], [0], 1, wf⟩ (ix2 i y) idx 1 = 0 := rfl
  have hst : ScatterDims.start ⟨[1], [0], [0], 1, wf⟩ (ix2 i y) idx 0 = (idx (ix2 i (0 : Fin 1))).toInt := by
    show (idx _).toInt = _
    congr 2
    funext b
    match b with
    | ⟨0, _⟩ => rfl
    | ⟨1, _⟩ => rfl
  have hx := x.isLt
  have hy := y.isLt
  unfold ScatterDims.resultIdx?
  constructor
  · intro e
    split at e
    · next h =>
      have h0 := (h 0).1
      have e0 := congrArg Fin.val (congrFun (Option.some.inj e) 0)
      have e1 := congrArg Fin.val (congrFun (Option.some.inj e) 1)
      change (ScatterDims.start (⟨[1], [0], [0], 1, wf⟩ : ScatterDims (⟨2, ![N, B]⟩ : Shape) (⟨2, ![n, 1]⟩ : Shape) (⟨2, ![n, B]⟩ : Shape)) (ix2 i y) idx 0 + (ScatterDims.window (⟨[1], [0], [0], 1, wf⟩ : ScatterDims (⟨2, ![N, B]⟩ : Shape) (⟨2, ![n, 1]⟩ : Shape) (⟨2, ![n, B]⟩ : Shape)) (ix2 i y) 0 : ℤ)).toNat = x.val at e0
      change (ScatterDims.start (⟨[1], [0], [0], 1, wf⟩ : ScatterDims (⟨2, ![N, B]⟩ : Shape) (⟨2, ![n, 1]⟩ : Shape) (⟨2, ![n, B]⟩ : Shape)) (ix2 i y) idx (1 : Fin 2) + (ScatterDims.window (⟨[1], [0], [0], 1, wf⟩ : ScatterDims (⟨2, ![N, B]⟩ : Shape) (⟨2, ![n, 1]⟩ : Shape) (⟨2, ![n, B]⟩ : Shape)) (ix2 i y) (1 : Fin 2) : ℤ)).toNat = z.val at e1
      rw [hst, hw] at e0 h0
      rw [hst1, hw1] at e1
      exact ⟨by omega, Fin.ext (by omega)⟩
    · cases e
  · rintro ⟨e, rfl⟩
    rw [dif_pos]
    · refine congrArg some (funext fun a => Fin.ext ?_)
      match a with
      | ⟨0, _⟩ =>
        show (ScatterDims.start (⟨[1], [0], [0], 1, wf⟩ : ScatterDims (⟨2, ![N, B]⟩ : Shape) (⟨2, ![n, 1]⟩ : Shape) (⟨2, ![n, B]⟩ : Shape)) (ix2 i y) idx 0 + (ScatterDims.window (⟨[1], [0], [0], 1, wf⟩ : ScatterDims (⟨2, ![N, B]⟩ : Shape) (⟨2, ![n, 1]⟩ : Shape) (⟨2, ![n, B]⟩ : Shape)) (ix2 i y) 0 : ℤ)).toNat = x.val
        rw [hst, hw]; omega
      | ⟨1, _⟩ =>
        show (ScatterDims.start (⟨[1], [0], [0], 1, wf⟩ : ScatterDims (⟨2, ![N, B]⟩ : Shape) (⟨2, ![n, 1]⟩ : Shape) (⟨2, ![n, B]⟩ : Shape)) (ix2 i y) idx (1 : Fin 2) + (ScatterDims.window (⟨[1], [0], [0], 1, wf⟩ : ScatterDims (⟨2, ![N, B]⟩ : Shape) (⟨2, ![n, 1]⟩ : Shape) (⟨2, ![n, B]⟩ : Shape)) (ix2 i y) (1 : Fin 2) : ℤ)).toNat = y.val
        rw [hst1, hw1]; omega
    · intro a
      match a with
      | ⟨0, _⟩ =>
        show 0 ≤ ScatterDims.start (⟨[1], [0], [0], 1, wf⟩ : ScatterDims (⟨2, ![N, B]⟩ : Shape) (⟨2, ![n, 1]⟩ : Shape) (⟨2, ![n, B]⟩ : Shape)) (ix2 i y) idx 0 + (ScatterDims.window (⟨[1], [0], [0], 1, wf⟩ : ScatterDims (⟨2, ![N, B]⟩ : Shape) (⟨2, ![n, 1]⟩ : Shape) (⟨2, ![n, B]⟩ : Shape)) (ix2 i y) 0 : ℤ) ∧ ScatterDims.start (⟨[1], [0], [0], 1, wf⟩ : ScatterDims (⟨2, ![N, B]⟩ : Shape) (⟨2, ![n, 1]⟩ : Shape) (⟨2, ![n, B]⟩ : Shape)) (ix2 i y) idx 0 + (ScatterDims.window (⟨[1], [0], [0], 1, wf⟩ : ScatterDims (⟨2, ![N, B]⟩ : Shape) (⟨2, ![n, 1]⟩ : Shape) (⟨2, ![n, B]⟩ : Shape)) (ix2 i y) 0 : ℤ) < (N : ℤ)
        rw [hst, hw]; omega
      | ⟨1, _⟩ =>
        show 0 ≤ ScatterDims.start (⟨[1], [0], [0], 1, wf⟩ : ScatterDims (⟨2, ![N, B]⟩ : Shape) (⟨2, ![n, 1]⟩ : Shape) (⟨2, ![n, B]⟩ : Shape)) (ix2 i y) idx (1 : Fin 2) + (ScatterDims.window (⟨[1], [0], [0], 1, wf⟩ : ScatterDims (⟨2, ![N, B]⟩ : Shape) (⟨2, ![n, 1]⟩ : Shape) (⟨2, ![n, B]⟩ : Shape)) (ix2 i y) (1 : Fin 2) : ℤ) ∧ ScatterDims.start (⟨[1], [0], [0], 1, wf⟩ : ScatterDims (⟨2, ![N, B]⟩ : Shape) (⟨2, ![n, 1]⟩ : Shape) (⟨2, ![n, B]⟩ : Shape)) (ix2 i y) idx (1 : Fin 2) + (ScatterDims.window (⟨[1], [0], [0], 1, wf⟩ : ScatterDims (⟨2, ![N, B]⟩ : Shape) (⟨2, ![n, 1]⟩ : Shape) (⟨2, ![n, B]⟩ : Shape)) (ix2 i y) (1 : Fin 2) : ℤ) < (B : ℤ)
        rw [hst1, hw1]; omega

/-- A word below a thousand, read signed, is its count. -/
theorem toInt_lt {k : ℕ} (h : k < 1000) : (BitVec.ofNat 32 k).toInt = (k : ℤ) := by
  rw [BitVec.toInt_eq_toNat_of_lt] <;> rw [BitVec.toNat_ofNat, Nat.mod_eq_of_lt (by omega)]
  omega

variable (L : ℕ → ℕ) (hb : ∀ r, L r < 1000) (idx : IVec (⟨2, ![n, 1]⟩ : Shape) 32) (hL : ∀ r : Fin n, idx (ix2 r (0 : Fin 1)) = BitVec.ofNat 32 (L r.val))
include hb hL

/-- Numbers scattered into zeros by label: each class holds the sum of its rows'. -/
theorem scat1 (d : ScatterDims (⟨1, ![N]⟩ : Shape) (⟨2, ![n, 1]⟩ : Shape) (⟨1, ![n]⟩ : Shape)) (hu : d.updateWindowDims = []) (hi : d.insertedWindowDims = [0])
    (hs : d.scatterDimsToOperandDims = [0]) (hv : d.indexVectorDim = 1) (z : FVec Ideal (⟨1, ![N]⟩ : Shape) .f32) (u : FVec Ideal (⟨1, ![n]⟩ : Shape) .f32) (x : Fin N)
    (hz : z (ix1 x) = 0) (U : ℕ → ℝ) (hU : ∀ r : Fin n, L r.val = x.val → u (ix1 r) = ((U r.val : ℝ) : EReal)) :
    Host.scatterAdd d z idx u (ix1 x) = ((∑ r : Fin n, if L r.val = x.val then U r.val else 0 : ℝ) : EReal) := by
  show z (ix1 x) + ∑ j ∈ Finset.univ.filter (fun j => d.resultIdx? j idx = some (ix1 x)), u j = _
  rw [hz, zero_add, Finset.sum_filter, ← Equiv.sum_comp (idxEquiv1 (n := n)).symm, Cert.Maths.coe_sum]
  refine Finset.sum_congr rfl fun r _ => ?_
  have hr : (d.resultIdx? (ix1 r) idx = some (ix1 x)) ↔ L r.val = x.val := by
    rw [lands1 d hu hi hs hv, hL, toInt_lt (hb _)]; exact Nat.cast_inj
  show (if d.resultIdx? (ix1 r) idx = some (ix1 x) then u (ix1 r) else 0) = _
  by_cases h : L r.val = x.val
  · rw [if_pos (hr.2 h), if_pos h, hU r h]
  · rw [if_neg (fun e => h (hr.1 e)), if_neg h]; rfl

/-- Rows scattered into zeros by label: each class's row holds the sum of its rows. -/
theorem scat2 (d : ScatterDims (⟨2, ![N, B]⟩ : Shape) (⟨2, ![n, 1]⟩ : Shape) (⟨2, ![n, B]⟩ : Shape)) (hu : d.updateWindowDims = [1]) (hi : d.insertedWindowDims = [0])
    (hs : d.scatterDimsToOperandDims = [0]) (hv : d.indexVectorDim = 1) (z : FVec Ideal (⟨2, ![N, B]⟩ : Shape) .f32) (u : FVec Ideal (⟨2, ![n, B]⟩ : Shape) .f32) (x : Fin N) (y : Fin B)
    (hz : z (ix2 x y) = 0) (U : ℕ → ℝ) (hU : ∀ r : Fin n, L r.val = x.val → u (ix2 r y) = ((U r.val : ℝ) : EReal)) :
    Host.scatterAdd d z idx u (ix2 x y) = ((∑ r : Fin n, if L r.val = x.val then U r.val else 0 : ℝ) : EReal) := by
  show z (ix2 x y) + ∑ j ∈ Finset.univ.filter (fun j => d.resultIdx? j idx = some (ix2 x y)), u j = _
  rw [hz, zero_add, Finset.sum_filter, sum_idx2, Cert.Maths.coe_sum]
  refine Finset.sum_congr rfl fun r _ => ?_
  have hr : ∀ b, (d.resultIdx? (ix2 r b) idx = some (ix2 x y)) ↔ (L r.val = x.val ∧ b = y) := fun b => by
    rw [lands2 d hu hi hs hv, hL, toInt_lt (hb _), Nat.cast_inj]
  by_cases h : L r.val = x.val
  · rw [if_pos h, Finset.sum_eq_single y, if_pos ((hr y).2 ⟨h, rfl⟩), hU r h]
    · intro b _ hby
      rw [if_neg (fun e => hby ((hr b).1 e).2)]
    · intro hy; exact absurd (Finset.mem_univ _) hy
  · rw [if_neg h]
    refine (Finset.sum_eq_zero fun b _ => ?_).trans rfl
    rw [if_neg (fun e => h ((hr b).1 e).1)]

end Cert.Scat

end
-- ==== Proof.RI.Val.lean ====
/- The reference's value: its result at row `n`, column `j` is `Cert.Noise.res L X n j` when the labels are `L`, the features the
   reals `X` and the words those of the noise. -/
module

public import proofs.«01_k».proof.Proof.Gen.ReferenceIdeal.Read
public import proofs.«01_k».proof.Proof.RI.Words
public import proofs.«01_k».proof.Proof.Noise
public import proofs.«01_k».proof.Proof.Scat
public import Idealize.ShloMosaic.Lib.Routing.Ops

@[expose] public section

noncomputable section

namespace Cert.ReferenceIdeal.Two

open Idealize.ShloMosaic Idealize.ShloMosaic.TcCoe Idealize.ShloMosaic.ValueIdx Cert.ReferenceIdeal Cert.ReferenceIdeal.Gen Cert.ReferenceIdeal.Read Cert.Noise Cert.Maths Idealize.ShloMosaic.Routing

theorem one : Ideal.ofBits .f32 0x3F800000#32 = ((1 : ℝ) : EReal) := by
  simp [Ideal.ofBits, Ideal.ieee]
  rw [← EReal.coe_mul]; norm_num
theorem zero : Ideal.ofBits .f32 0x00000000#32 = (0 : EReal) := by
  simp [Ideal.ofBits, Ideal.ieee]
theorem twelve : Ideal.ofBits .f32 0x41400000#32 = ((12 : ℝ) : EReal) := by
  simp [Ideal.ofBits, Ideal.ieee]
  rw [← EReal.coe_mul]; norm_num
theorem thousand : Ideal.ofBits .f32 0x447A0000#32 = ((1000 : ℝ) : EReal) := by
  simp [Ideal.ofBits, Ideal.ieee]
  rw [← EReal.coe_mul]; norm_num
theorem halfr : Ideal.ofBits .f32 0x3F000000#32 = ((1 / 2 : ℝ) : EReal) := by
  simp [Ideal.ofBits, Ideal.ieee]
  rw [← EReal.coe_mul]; norm_num
theorem ulp : Ideal.ofBits .f32 0x34000000#32 = (((2 : ℝ) ^ (-23 : ℤ) : ℝ) : EReal) := by
  simp [Ideal.ofBits, Ideal.ieee]
  rw [← EReal.coe_mul]; norm_num

/-- The noise before it is scaled by the deviation. -/
theorem noise (r0 : IVec S160000x256 32) (i : S160000x256.Idx) :
    val_main_v11 (F := Ideal) r0 i = ((Real.sqrt 12 * unit (r0 i) : ℝ) : EReal) := by
  have e3 : val_main_v3 (F := Ideal) r0 i = (((((r0 i).toNat / 512 : ℕ) : ℝ) : ℝ) : EReal) := by
    rw [val_main_v3_apply, val_main_v2_apply, val_main_v1_apply, val_main_c_apply, shrui_host, shr]
    show (((((r0 i) >>> 9).toInt : ℝ)) : EReal) = _
    have hw := (r0 i).isLt
    rw [BitVec.toInt_eq_toNat_of_lt (by rw [shr_toNat]; omega), shr_toNat]
    rfl
  have e7 : val_main_v7 (F := Ideal) r0 i = ((unit (r0 i) : ℝ) : EReal) := by
    rw [val_main_v7_apply, val_main_v5_apply, e3, val_main_v4_apply, val_main_cst_apply, val_main_v6_apply, val_main_cst_0_apply]
    show (_ : EReal) * Ideal.ofBits .f32 0x34000000#32 - Ideal.ofBits .f32 0x3F000000#32 = _
    rw [ulp, halfr, ← EReal.coe_mul, ← EReal.coe_sub]
    rfl
  rw [val_main_v11_apply, e7, val_main_v10_apply, val_main_v9_apply, val_main_v8_apply, val_main_cst_1_apply]
  show Ideal.sqrt (Ideal.ofBits .f32 0x41400000#32) * _ = _
  rw [twelve, sqrt_coe _ (by norm_num), ← EReal.coe_mul]

variable (x0 : FVec Ideal S160000x256 .f32) (x1 : IVec S160000 32) (r0 : IVec S160000x256 32)
variable (L : ℕ → ℕ) (X : ℕ → Fin 256 → ℝ) (hb : ∀ n, L n < 1000)
variable (hL : ∀ n : Fin 160000, x1 (ix1 n) = BitVec.ofNat 32 (L n.val))
variable (hX : ∀ (n : Fin 160000) (j : Fin 256), x0 (ix2 n j) = ((X n.val j : ℝ) : EReal))

include hL in
theorem lab14 (r : Fin 160000) : val_main_v14 (F := Ideal) x1 (ix2 r (0 : Fin 1)) = BitVec.ofNat 32 (L r.val) := by
  rw [val_main_v14_apply, ← hL r]
  exact congrArg x1 (funext fun a => Fin.ext (by match a with | ⟨0, _⟩ => rfl))
include hL in
theorem lab19 (r : Fin 160000) : val_main_v19 (F := Ideal) x1 (ix2 r (0 : Fin 1)) = BitVec.ofNat 32 (L r.val) := by
  rw [val_main_v19_apply, ← hL r]
  exact congrArg x1 (funext fun a => Fin.ext (by match a with | ⟨0, _⟩ => rfl))
include hL in
theorem lab34 (r : Fin 160000) : val_main_v34 (F := Ideal) x1 (ix2 r (0 : Fin 1)) = BitVec.ofNat 32 (L r.val) := by
  rw [val_main_v34_apply, ← hL r]
  exact congrArg x1 (funext fun a => Fin.ext (by match a with | ⟨0, _⟩ => rfl))

/-- A label from zero up is its own index. -/
theorem sel {k : ℕ} (h : k < 1000) (a : BitVec 32) :
    Scalar.select (IntOp.cmpi .slt (BitVec.ofNat 32 k) 0#32) a (BitVec.ofNat 32 k) = BitVec.ofNat 32 k := by
  have : IntOp.cmpi .slt (BitVec.ofNat 32 k) 0#32 = 0#1 := by
    show BitVec.ofBool ((BitVec.ofNat 32 k).slt 0#32) = 0#1
    have : (BitVec.ofNat 32 k).slt 0#32 = false := by
      rw [BitVec.slt, Cert.Scat.toInt_lt h]
      simp
    rw [this]; rfl
  rw [this]
  rfl

include hb hL in
theorem lab29 (r : Fin 160000) : val_main_v29 (F := Ideal) x1 (ix2 r (0 : Fin 1)) = BitVec.ofNat 32 (L r.val) := by
  have e : idx_main_v29 (ix2 r (0 : Fin 1)) = ix1 r := funext fun a => Fin.ext (by match a with | ⟨0, _⟩ => rfl)
  rw [val_main_v29_apply, e, val_main_v28_apply, val_main_v25_apply, val_main_v24_apply, val_main_c_6_apply, hL]
  exact sel (hb _) _
include hb hL in
theorem lab49 (r : Fin 160000) : val_main_v49 (F := Ideal) x1 (ix2 r (0 : Fin 1)) = BitVec.ofNat 32 (L r.val) := by
  have e : idx_main_v49 (ix2 r (0 : Fin 1)) = ix1 r := funext fun a => Fin.ext (by match a with | ⟨0, _⟩ => rfl)
  rw [val_main_v49_apply, e, val_main_v48_apply, val_main_v45_apply, val_main_v44_apply, val_main_c_11_apply, hL]
  exact sel (hb _) _

theorem part_fin (Y : ℕ → ℝ) (n k : ℕ) : part L Y n k = ∑ r : Fin n, if L r.val = k then Y r.val else 0 :=
  Finset.sum_range (fun r => if L r = k then Y r else 0)

/-- The count, the sum and the mean of a class. -/
abbrev cnt (k : ℕ) : ℝ := part L (fun _ => 1) 160000 k
abbrev tot (j : Fin 256) (k : ℕ) : ℝ := part L (fun r => X r j) 160000 k
abbrev mean (j : Fin 256) (k : ℕ) : ℝ := tot L X j k / max (cnt L k) 1

theorem max_ne (a : ℝ) : max a 1 ≠ 0 := ne_of_gt (lt_of_lt_of_le one_pos (le_max_right _ _))

include hb hL in
theorem count (k : Fin 1000) : val_main_v15 (F := Ideal) x1 (ix1 k) = ((cnt L k.val : ℝ) : EReal) := by
  unfold val_main_v15
  rw [show cnt L k.val = _ from part_fin L (fun _ => 1) 160000 k.val]
  refine Cert.Scat.scat1 L hb _ (lab14 x1 L hL) _ rfl rfl rfl rfl _ _ k ?_ (fun _ => 1) fun r _ => ?_
  · rw [val_main_v13_apply, val_main_cst_3_apply]; exact zero
  · rw [val_main_v12_apply, val_main_cst_2_apply]; exact one

include hb hL hX in
theorem total (k : Fin 1000) (j : Fin 256) : val_main_v20 (F := Ideal) x0 x1 (ix2 k j) = ((tot L X j k.val : ℝ) : EReal) := by
  unfold val_main_v20
  rw [show tot L X j k.val = _ from part_fin L (fun r => X r j) 160000 k.val]
  refine Cert.Scat.scat2 L hb _ (lab19 x1 L hL) _ rfl rfl rfl rfl _ _ k j ?_ (fun r => X r j) fun r _ => ?_
  · rw [val_main_v18_apply, val_main_cst_5_apply]; exact zero
  · exact hX r j

include hb hL in
theorem cap (k : Fin 1000) : val_main_v17 (F := Ideal) x1 (ix1 k) = ((max (cnt L k.val) 1 : ℝ) : EReal) := by
  rw [val_main_v17_apply, count x1 L hb hL, val_main_v16_apply, val_main_cst_4_apply]
  show max (_ : EReal) (Ideal.ofBits .f32 0x3F800000#32) = _
  rw [one, coe_max]

include hb hL hX in
theorem meanv (k : Fin 1000) (j : Fin 256) : val_main_v23 (F := Ideal) x0 x1 (ix2 k j) = ((mean L X j k.val : ℝ) : EReal) := by
  have e : idx_main_v21 (idx_main_v22 (ix2 k j)) = ix1 k := funext fun a => Fin.ext (by match a with | ⟨0, _⟩ => rfl)
  rw [val_main_v23_apply, total x0 x1 L X hb hL hX, val_main_v22_apply, val_main_v21_apply, e, cap x1 L hb hL, Ideal.hostDivf_def, div_coe _ _ (max_ne _)]

include hb hL hX in
theorem sqdev (r : Fin 160000) (j : Fin 256) :
    val_main_v32 (F := Ideal) x0 x1 (ix2 r j) = (((X r.val j - mean L X j (L r.val)) * (X r.val j - mean L X j (L r.val)) : ℝ) : EReal) := by
  have e30 : val_main_v30 (F := Ideal) x0 x1 (ix2 r j) = ((mean L X j (L r.val) : ℝ) : EReal) := by
    unfold val_main_v30
    rw [gather_row _ rfl rfl rfl rfl rfl _ _ r j (⟨L r.val, hb _⟩ : Fin 1000) (lab29 x1 L hb hL r) (by norm_num)]
    exact meanv x0 x1 L X hb hL hX _ _
  rw [val_main_v32_apply, val_main_v31_apply, e30, hX]
  show ((_ : EReal) - _) * (_ - _) = _
  rw [← EReal.coe_sub, ← EReal.coe_mul]

/-- The sum of the squared deviations of a class. -/
abbrev sq (j : Fin 256) (k : ℕ) : ℝ :=
  ∑ r : Fin 160000, if L r.val = k then (X r.val j - mean L X j k) * (X r.val j - mean L X j k) else 0

include hb hL hX in
theorem sqv (k : Fin 1000) (j : Fin 256) : val_main_v35 (F := Ideal) x0 x1 (ix2 k j) = ((sq L X j k.val : ℝ) : EReal) := by
  unfold val_main_v35
  refine Cert.Scat.scat2 L hb _ (lab34 x1 L hL) _ rfl rfl rfl rfl _ _ k j ?_
    (fun r => (X r j - mean L X j k.val) * (X r j - mean L X j k.val)) fun r hr => ?_
  · rw [val_main_v33_apply, val_main_cst_8_apply]; exact zero
  · rw [sqdev x0 x1 L X hb hL hX, hr]

theorem sq_nonneg' (j : Fin 256) (k : ℕ) : 0 ≤ sq L X j k :=
  Finset.sum_nonneg fun r _ => by
    by_cases h : L r.val = k
    · rw [if_pos h]; exact mul_self_nonneg _
    · rw [if_neg h]

/-- The deviations squared and summed are the sum of squares less the sum's square over the count. -/
theorem sq_eq (j : Fin 256) (k : ℕ) :
    sq L X j k = part L (fun r => X r j ^ 2) 160000 k - tot L X j k * tot L X j k / max (cnt L k) 1 := by
  have h := sum_dev_sq (fun r : Fin 160000 => L r.val = k) (fun r => X r.val j)
  unfold sq mean tot cnt
  simp only [part_fin, pow_two]
  exact h

theorem dev_eq (j : Fin 256) (k : ℕ) : Real.sqrt (sq L X j k / max (cnt L k - 1) 1) = devs L X k j := by
  unfold devs dev
  rw [← show sq L X j k = part L (fun r => X r j ^ 2) 160000 k - part L (fun r => X r j) 160000 k * part L (fun r => X r j) 160000 k / max (part L (fun _ => 1) 160000 k) 1 from sq_eq L X j k]
  rw [max_eq_left (div_nonneg (sq_nonneg' L X j k) (le_trans zero_le_one (le_max_right _ _)))]

include hb hL hX in
theorem devv (k : Fin 1000) (j : Fin 256) : val_main_v43 (F := Ideal) x0 x1 (ix2 k j) = ((devs L X k.val j : ℝ) : EReal) := by
  have e : idx_main_v40 (idx_main_v41 (ix2 k j)) = ix1 k := funext fun a => Fin.ext (by match a with | ⟨0, _⟩ => rfl)
  have e39 : val_main_v39 (F := Ideal) x1 (ix1 k) = ((max (cnt L k.val - 1) 1 : ℝ) : EReal) := by
    rw [val_main_v39_apply, val_main_v37_apply, count x1 L hb hL, val_main_v36_apply, val_main_cst_9_apply, val_main_v38_apply, val_main_cst_10_apply]
    show max ((_ : EReal) - Ideal.ofBits .f32 0x3F800000#32) (Ideal.ofBits .f32 0x3F800000#32) = _
    rw [one, ← EReal.coe_sub, coe_max]
  rw [val_main_v43_apply, val_main_v42_apply, sqv x0 x1 L X hb hL hX, val_main_v41_apply, val_main_v40_apply, e, e39, Ideal.hostDivf_def, div_coe _ _ (max_ne _),
    Ideal.hostUnary_sqrt_def, sqrt_coe _ (div_nonneg (sq_nonneg' L X j k.val) (le_trans zero_le_one (le_max_right _ _))), dev_eq]

include hb hL hX in
theorem featv (r : Fin 160000) (j : Fin 256) :
    val_main_v54 (F := Ideal) x0 x1 r0 (ix2 r j) = ((feat (X r.val j) (devs L X (L r.val) j) (r0 (ix2 r j)) : ℝ) : EReal) := by
  have e50 : val_main_v50 (F := Ideal) x0 x1 (ix2 r j) = ((devs L X (L r.val) j : ℝ) : EReal) := by
    unfold val_main_v50
    rw [gather_row _ rfl rfl rfl rfl rfl _ _ r j (⟨L r.val, hb _⟩ : Fin 1000) (lab49 x1 L hb hL r) (by norm_num)]
    exact devv x0 x1 L X hb hL hX _ _
  rw [val_main_v54_apply, val_main_v53_apply, val_main_v51_apply, e50, noise, val_main_v52_apply, val_main_cst_13_apply, hX, Ideal.hostDivf_def]
  show (_ : EReal) + Ideal.div (_ * _) (Ideal.ofBits .f32 0x447A0000#32) = _
  rw [thousand, ← EReal.coe_mul, div_coe _ _ (by norm_num), ← EReal.coe_add]
  refine congrArg (fun z : ℝ => (z : EReal)) ?_
  unfold feat
  ring

include hb hL hX in
/-- The reference's result. -/
theorem val (hr : ∀ (n : Fin 160000) (j : Fin 256), r0 (ix2 n j) = Cert.Words.block (n.val / 640) (ix2 (⟨n.val % 640, Nat.mod_lt _ (by norm_num)⟩ : Fin 640) j))
    (n : Fin 160000) (j : Fin 256) : val_main_v59 (F := Ideal) x0 x1 r0 (ix2 n j) = res L X n j := by
  have e : idx_main_call0_v2 (idx_main_v58 (ix2 n j)) = ix1 n := funext fun a => Fin.ext (by match a with | ⟨0, _⟩ => rfl)
  have ek : ∀ k : Fin 256, idx_main_call0_v1 (ix1 n) k = ix2 n k := fun k => funext fun a => Fin.ext (by match a with | ⟨0, _⟩ => rfl | ⟨1, _⟩ => rfl)
  have es : val_main_call0_v1 (F := Ideal) x0 x1 r0 (ix1 n)
      = ∑ k : Fin 256, ((feat (X n.val k) (devs L X (L n.val) k) (r0 (ix2 n k)) : ℝ) : EReal) * ((feat (X n.val k) (devs L X (L n.val) k) (r0 (ix2 n k)) : ℝ) : EReal) := by
    rw [val_main_call0_v1_apply, val_main_call0_cst_apply]
    refine Eq.trans (congrArg₂ (· + ·) zero rfl) ?_
    rw [zero_add]
    refine Finset.sum_congr rfl fun k _ => ?_
    rw [ek, val_main_call0_v0_apply, featv x0 x1 r0 L X hb hL hX]
    rfl
  rw [val_main_v59_apply, featv x0 x1 r0 L X hb hL hX, val_main_v58_apply, val_main_v57_apply, val_main_v55_apply, val_main_call0_v2_apply, e, es,
    val_main_v56_apply, val_main_cst_14_apply, Ideal.hostDivf_def, Ideal.hostUnary_sqrt_def]
  unfold res out
  simp only [hr]
  rfl

end Cert.ReferenceIdeal.Two

end
-- ==== Proof.Range.lean ====
/- What the precondition says: every feature is a real number, every label a class. -/
module

public import proofs.«01_k».proof.Pre_finite_and_in_range
public import Idealize.ShloMosaic.PureOps.Ideal
public import Idealize.ShloMosaic.Lib.ReduceAll
public import Idealize.ShloMosaic.Lib.ValueIdx

@[expose] public section

noncomputable section

namespace Cert.Range

open Idealize.ShloMosaic Idealize.ShloMosaic.ValueIdx Cert.Pre_finite_and_in_range

instance facts : Cert.Pre_finite_and_in_range.Facts where
  bcast_S_S160000x256 := by decide
  reducesTo_S160000x256_S_d0_1 := by decide
  h_S_ := by decide
  bcast_S_S160000 := by decide
  reducesTo_S160000_S_d0 := by decide

theorem inf : Ideal.ofBits .f32 0x7F800000#32 = (⊤ : EReal) := by
  simp [Ideal.ofBits, Ideal.ieee]

theorem and_one {a b : BitVec 1} (h : IntOp.andi a b = 1#1) : a = 1#1 ∧ b = 1#1 := by
  revert a b; decide

theorem lt_top {x : EReal} (h : max x (-x) < ⊤) : x = ((x.toReal : ℝ) : EReal) := by
  refine (EReal.coe_toReal ?_ ?_).symm
  · rintro rfl; simp at h
  · rintro rfl; simp at h

theorem bit_true {b : Bool} (h : BitVec.ofBool b = 1#1) : b = true := by revert b; decide

variable (x0 : FVec Ideal S160000x256 .f32) (x1 : IVec S160000 32) (h : fn (F := Ideal) x0 x1 = fun _ => 1#1)
include h

theorem both : (∀ i, cmpf (F := Ideal) .olt (Host.absf x0) (broadcastInDim S160000x256 ![] Facts.bcast_S_S160000x256 (constant (F := Ideal) S_ .f32 0x7F800000#32)) i = 1#1)
    ∧ ∀ i, andi (cmpi .sge x1 (broadcastInDim S160000 ![] Facts.bcast_S_S160000 (constantI S_ 32 0#32)))
        (cmpi .slt x1 (broadcastInDim S160000 ![] Facts.bcast_S_S160000 (constantI S_ 32 1000#32))) i = 1#1 := by
  have e := congrFun h (fun a => a.elim0)
  have e' := and_one e
  exact ⟨fun i => Host.reduce_andi_all _ _ _ _ _ e'.1 i, fun i => Host.reduce_andi_all _ _ _ _ _ e'.2 i⟩

theorem real (i : S160000x256.Idx) : x0 i = (((x0 i : EReal).toReal : ℝ) : EReal) := by
  have e := (both x0 x1 h).1 i
  refine lt_top ?_
  have e1 : BitVec.ofBool (decide (max (x0 i) (-(x0 i : EReal)) < Ideal.ofBits .f32 0x7F800000#32)) = 1#1 := e
  rw [inf] at e1
  exact of_decide_eq_true (bit_true e1)

theorem label (i : S160000.Idx) : (x1 i).toNat < 1000 := by
  have e := and_one ((both x0 x1 h).2 i)
  have e1 : (0#32 : BitVec 32).toInt ≤ (x1 i).toInt := IntOp.cmpi_sge.1 e.1
  have e2 : (x1 i).toInt < (1000#32 : BitVec 32).toInt := IntOp.cmpi_slt.1 e.2
  rw [show (0#32 : BitVec 32).toInt = 0 from by decide] at e1
  rw [show (1000#32 : BitVec 32).toInt = 1000 from by decide] at e2
  have hw := (x1 i).isLt
  rw [BitVec.toInt_eq_toNat_cond] at e1 e2
  split at e1 <;> split at e2 <;> omega

omit h in
/-- The labels as numbers, of every row. -/
def lab (n : ℕ) : ℕ := if hn : n < 160000 then (x1 (ix1 ⟨n, hn⟩)).toNat else 0

omit h in
/-- The features as reals, of every row. -/
def ftr (n : ℕ) (j : Fin 256) : ℝ := if hn : n < 160000 then (x0 (ix2 ⟨n, hn⟩ j) : EReal).toReal else 0

theorem lab_lt (n : ℕ) : lab x1 n < 1000 := by
  unfold lab
  split
  · exact label x0 x1 h _
  · norm_num

omit h in
theorem lab_eq (n : Fin 160000) : x1 (ix1 n) = BitVec.ofNat 32 (lab x1 n.val) := by
  unfold lab
  rw [dif_pos n.isLt]
  exact BitVec.eq_of_toNat_eq (by rw [BitVec.toNat_ofNat, Nat.mod_eq_of_lt (BitVec.isLt _)])

theorem ftr_eq (n : Fin 160000) (j : Fin 256) : x0 (ix2 n j) = ((ftr x0 n.val j : ℝ) : EReal) := by
  unfold ftr
  rw [dif_pos n.isLt]
  exact real x0 x1 h _

end Cert.Range

end
-- ==== Proof.lean ====
/- The proof of the claims: each frame from its run, the named constant by its value, and the equality of the two results: both are
   `Cert.Noise.res` of the labels and features. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.K.Run
public import proofs.«01_k».proof.Proof.KI.Run
public import proofs.«01_k».proof.Proof.KI.ValB
public import proofs.«01_k».proof.Proof.RI.Val
public import proofs.«01_k».proof.Proof.Range
public import Idealize.ShloMosaic.Adequacy
public import Idealize.ShloMosaic.Init

@[expose] public section

noncomputable section

namespace Cert.Proof

open Idealize.ShloMosaic Idealize.SL.Sem Cert.Kernel

theorem preserves : Cert.preserves_Kernel_KernelIdeal :=
  IdealRules.named_const.statement Cert.KernelIdeal.κ "noise_ratio" .f32 0x3B6305FB#32 _ rfl

/-- Both programs leave `Cert.Noise.res` of the labels and features. -/
theorem algebraic : Cert.algebraic_KernelIdeal_ReferenceIdeal_pre_finite_and_in_range := by
  intro m g m' g' hpre hargs
  have hk : ∀ c, Cert.KernelIdeal.Two.W3 m g c (Proc.devRef .tc Cert.KernelIdeal.main_v3)
      = Cert.KernelIdeal.Two.resArr (Cert.Range.lab (m ((c.tc : Thread Cert.KernelIdeal.nD Cert.KernelIdeal.τ).loc Cert.KernelIdeal.main_arg1)))
          (Cert.Range.ftr (m ((c.tc : Thread Cert.KernelIdeal.nD Cert.KernelIdeal.τ).loc Cert.KernelIdeal.main_arg0))) := fun c =>
    Cert.KernelIdeal.Two.value m g _ _ (Cert.Range.lab_lt _ _ (hpre c)) c (Cert.Range.lab_eq _) (Cert.Range.ftr_eq _ _ (hpre c))
  refine ⟨fun c => Cert.KernelIdeal.Two.W3 m g c (Proc.devRef .tc Cert.KernelIdeal.main_v3), ?_, ?_⟩
  · exact (θ_run _ _ _).mono (fun _ h c => h.1 c) (Cert.KernelIdeal.Two.run_all m g)
  · refine (θ_run _ _ _).mono (fun _ h c => ⟨(h c).1.trans ?_, (h c).2⟩) (Cert.ReferenceIdeal.Value.run m' g')
    refine (Cert.ReferenceIdeal.Read.val_main_v59_eq _).trans ?_
    rw [Cert.ReferenceIdeal.Value.exit_main_arg0, Cert.ReferenceIdeal.Value.exit_main_arg1, Cert.ReferenceIdeal.Value.exit_main_v0,
      Cert.ReferenceIdeal.Two.words, (hargs c).1, (hargs c).2]
    refine Eq.trans ?_ (hk c).symm
    funext i
    have e := Cert.ReferenceIdeal.Two.val _ _ Cert.ReferenceIdeal.Two.wordsArr _ _ (Cert.Range.lab_lt _ _ (hpre c)) (Cert.Range.lab_eq _) (Cert.Range.ftr_eq _ _ (hpre c))
      (fun _ _ => rfl) (i 0) (i 1)
    exact (congrArg _ (ValueIdx.eq_ix2 i)).trans e

theorem claim : Cert.Claim := ⟨Cert.Kernel.Gen.facts, Cert.KernelIdeal.Gen.facts, Cert.ReferenceIdeal.Gen.facts, Cert.Range.facts,
  fun m ρ _ => Cert.Kernel.Two.frame m ρ, fun m ρ _ => Cert.KernelIdeal.Two.frame m ρ, fun m ρ _ => Cert.KernelIdeal.Two.frame m ρ,
  fun m ρ _ => Cert.ReferenceIdeal.Gen.frame m ρ, fun m ρ _ => Cert.ReferenceIdeal.Gen.frame m ρ, preserves, algebraic⟩

end Cert.Proof

end
